-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_rows_as_given [hPre_rows_as_given : Cert.Pre_rows_as_given.Facts] (m : (ℓ : Loc Cert.KernelIdeal.nD Cert.KernelIdeal.τ Cert.KernelIdeal.sig) → Buf (Elt Ideal) ℓ) : Prop :=
  ∀ c : Dev Cert.KernelIdeal.nD,
    (Cert.Pre_rows_as_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_rows_as_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_rows_as_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_as_given [hPre_rows_as_given : Cert.Pre_rows_as_given.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_as_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_rows_as_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_rows_as_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_as_given [hKernelIdeal : Cert.KernelIdeal.Facts] [hPre_rows_as_given : Cert.Pre_rows_as_given.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_as_given m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_as_given [hReferenceIdeal : Cert.ReferenceIdeal.Facts] [hPre_rows_as_given : Cert.Pre_rows_as_given.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_as_given m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_as_given [hKernelIdeal : Cert.KernelIdeal.Facts] [hReferenceIdeal : Cert.ReferenceIdeal.Facts] [hPre_rows_as_given : Cert.Pre_rows_as_given.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_as_given m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_rows_as_given : Cert.Pre_rows_as_given.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_rows_as_given (hKernelIdeal := hKernelIdeal) (hPre_rows_as_given := hPre_rows_as_given)
    ∧ quiescent_ReferenceIdeal (hReferenceIdeal := hReferenceIdeal)
    ∧ quiescent_ReferenceIdeal_pre_rows_as_given (hReferenceIdeal := hReferenceIdeal) (hPre_rows_as_given := hPre_rows_as_given)
    ∧ preserves_Kernel_KernelIdeal
    ∧ algebraic_KernelIdeal_ReferenceIdeal_pre_rows_as_given (hKernelIdeal := hKernelIdeal) (hReferenceIdeal := hReferenceIdeal) (hPre_rows_as_given := hPre_rows_as_given)
-- ==== Pre_labels_in_range.lean ====
abbrev S16384x1000 : Shape := ⟨2, ![16384, 1000]⟩
abbrev S8192 : Shape := ⟨1, ![8192]⟩
abbrev S_ : Shape := ⟨0, ![]⟩

class Facts : Prop where
  bcast_S_S8192 : S_.BroadcastsInDim S8192 (![] : Fin 0 → Fin S8192.rank)

variable [Facts]

def fn {F : FTy → Type} [FloatOps F] (main_arg0 : FVec F S16384x1000 .f32) (main_arg1 : IVec S8192 32) (main_arg2 : IVec S8192 32) (main_arg3 : IVec S8192 32) : IVec S8192 1 :=
  let main_c : IVec S_ 32 := constantI S_ 32 0#32
  let main_v0 : IVec S8192 32 := broadcastInDim S8192 ![] bcast_S_S8192 main_c
  let main_v1 : IVec S8192 1 := cmpi .sge main_arg1 main_v0
  let main_c_0 : IVec S_ 32 := constantI S_ 32 1000#32
  let main_v2 : IVec S8192 32 := broadcastInDim S8192 ![] bcast_S_S8192 main_c_0
  let main_v3 : IVec S8192 1 := cmpi .slt main_arg1 main_v2
  let main_v4 : IVec S8192 1 := andi main_v1 main_v3
  main_v4
-- ==== Pre_rows_as_given.lean ====
abbrev S16384x1000 : Shape := ⟨2, ![16384, 1000]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

class Facts : Prop where
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d0 : S8192x8192.ReducesTo [0] S8192
  h_S_ : 0 < S_.numel

variable [Facts]

def fn {F : FTy → Type} [FloatOps F] (main_arg0 : FVec F S16384x1000 .f32) (main_arg1 : IVec S8192 32) (main_arg2 : IVec S8192 32) (main_arg3 : IVec S8192 32) : IVec S8192 1 × IVec S8192 1 × IVec S8192 1 :=
  let main_v0 : IVec S8192 32 := iotaInDim S8192 32 0
  let main_c : IVec S_ 32 := constantI S_ 32 8192#32
  let main_v1 : IVec S8192 32 := broadcastInDim S8192 ![] bcast_S_S8192 main_c
  let main_v2 : IVec S8192 32 := addi main_v1 main_v0
  let main_v3 : IVec S8192x1 32 := broadcastInDim S8192x1 ![0] bcast_S8192_S8192x1_0 main_arg3
  let main_v4 : IVec S1x8192 32 := broadcastInDim S1x8192 ![1] bcast_S8192_S1x8192_1 main_v2
  let main_v5 : IVec S8192x8192 32 := broadcastInDim S8192x8192 ![0, 1] bcast_S8192x1_S8192x8192_0_1 main_v3
  let main_v6 : IVec S8192x8192 32 := broadcastInDim S8192x8192 ![0, 1] bcast_S1x8192_S8192x8192_0_1 main_v4
  let main_v7 : IVec S8192x8192 1 := cmpi .eq main_v5 main_v6
  let main_c_0 : IVec S_ 1 := constantI S_ 1 0#1
  let main_v8 : IVec S8192 1 := (fun x v => Host.reduce IntOp.ori x v reducesTo_S8192x8192_S8192_d0 h_S_) main_v7 main_c_0
  let main_c_1 : IVec S_ 32 := constantI S_ 32 0#32
  let main_v9 : IVec S8192 32 := broadcastInDim S8192 ![] bcast_S_S8192 main_c_1
  let main_v10 : IVec S8192 1 := cmpi .sge main_arg1 main_v9
  let main_c_2 : IVec S_ 32 := constantI S_ 32 1000#32
  let main_v11 : IVec S8192 32 := broadcastInDim S8192 ![] bcast_S_S8192 main_c_2
  let main_v12 : IVec S8192 1 := cmpi .slt main_arg1 main_v11
  let main_v13 : IVec S8192 1 := andi main_v10 main_v12
  let main_v14 : IVec S8192 32 := iotaInDim S8192 32 0
  let main_v15 : IVec S8192 1 := cmpi .eq main_arg2 main_v14
  (main_v13, main_v15, main_v8)
-- ==== Kernel.lean ====
abbrev S16384x1000 : Shape := ⟨2, ![16384, 1000]⟩
abbrev S8192 : Shape := ⟨1, ![8192]⟩
abbrev S256 : Shape := ⟨1, ![256]⟩
abbrev S32x1000 : Shape := ⟨2, ![32, 1000]⟩
abbrev S_ : Shape := ⟨0, ![]⟩
abbrev S16 : Shape := ⟨1, ![16]⟩
abbrev S1x16 : Shape := ⟨2, ![1, 16]⟩

abbrev nBuf : Table → Nat
  | .hbm => 5
  | .local .scVector .vmem => 4
  | _ => 0

abbrev bufTy : (tb : Table) → Fin (nBuf tb) → BufTy
  | .hbm, ⟨0, _⟩ => ⟨S16384x1000, .f32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S16384x1000, .f32⟩
  | .local .scVector .vmem, ⟨0, _⟩ => ⟨S256, .i32⟩
  | .local .scVector .vmem, ⟨1, _⟩ => ⟨S32x1000, .f32⟩
  | .local .scVector .vmem, ⟨2, _⟩ => ⟨S32x1000, .f32⟩
  | .local .scVector .vmem, ⟨3, _⟩ => ⟨S32x1000, .f32⟩
  | _, _ => ⟨S16384x1000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  ![v2.toNat]
def k0_off2 (i : grid0.Coords) (c0_i32 : BitVec 32) : Fin 2 → Nat :=
  let c8192_i32 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v6 : BitVec 32 := Scalar.addi c8192_i32 v2
  let v7 : BitVec 32 := Scalar.addi v6 c0_i32
  let c0_i32_1 : BitVec 32 := 0#32
  ![v7.toNat, 0]
@[reducible] def k0_t1_loop : Scf.Loop 32 :=
  let c0_i32_7 : BitVec 32 := 0#32
  let c32_i32_8 : BitVec 32 := 32#32
  let v14 : BitVec 32 := Scalar.addi c0_i32_7 c32_i32_8
  let c1_i32 : BitVec 32 := 1#32
  ⟨c0_i32_7, v14, c1_i32⟩
def k0_off3 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v227 : Index := Scalar.indexCast arg13
  let c0_158 : Index := 0#32
  ![v227.toNat, 0]
def k0_off4 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v229 : Index := Scalar.indexCast arg13
  let c16_159 : Index := 16#32
  ![v229.toNat, 16]
def k0_off5 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v231 : Index := Scalar.indexCast arg13
  let c32_160 : Index := 32#32
  ![v231.toNat, 32]
def k0_off6 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v233 : Index := Scalar.indexCast arg13
  let c48_161 : Index := 48#32
  ![v233.toNat, 48]
def k0_off7 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v235 : Index := Scalar.indexCast arg13
  let c64_162 : Index := 64#32
  ![v235.toNat, 64]
def k0_off8 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v237 : Index := Scalar.indexCast arg13
  let c80_163 : Index := 80#32
  ![v237.toNat, 80]
def k0_off9 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v239 : Index := Scalar.indexCast arg13
  let c96_164 : Index := 96#32
  ![v239.toNat, 96]
def k0_off10 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v241 : Index := Scalar.indexCast arg13
  let c112_165 : Index := 112#32
  ![v241.toNat, 112]
def k0_off11 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v243 : Index := Scalar.indexCast arg13
  let c128_166 : Index := 128#32
  ![v243.toNat, 128]
def k0_off12 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v245 : Index := Scalar.indexCast arg13
  let c144_167 : Index := 144#32
  ![v245.toNat, 144]
def k0_off13 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v247 : Index := Scalar.indexCast arg13
  let c160_168 : Index := 160#32
  ![v247.toNat, 160]
def k0_off14 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v249 : Index := Scalar.indexCast arg13
  let c176_169 : Index := 176#32
  ![v249.toNat, 176]
def k0_off15 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v251 : Index := Scalar.indexCast arg13
  let c192_170 : Index := 192#32
  ![v251.toNat, 192]
def k0_off16 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v253 : Index := Scalar.indexCast arg13
  let c208_171 : Index := 208#32
  ![v253.toNat, 208]
def k0_off17 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v255 : Index := Scalar.indexCast arg13
  let c224_172 : Index := 224#32
  ![v255.toNat, 224]
def k0_off18 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v257 : Index := Scalar.indexCast arg13
  let c240_173 : Index := 240#32
  ![v257.toNat, 240]
def k0_off19 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v259 : Index := Scalar.indexCast arg13
  let c256 : Index := 256#32
  ![v259.toNat, 256]
def k0_off20 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v261 : Index := Scalar.indexCast arg13
  let c272 : Index := 272#32
  ![v261.toNat, 272]
def k0_off21 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v263 : Index := Scalar.indexCast arg13
  let c288 : Index := 288#32
  ![v263.toNat, 288]
def k0_off22 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v265 : Index := Scalar.indexCast arg13
  let c304 : Index := 304#32
  ![v265.toNat, 304]
def k0_off23 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v267 : Index := Scalar.indexCast arg13
  let c320 : Index := 320#32
  ![v267.toNat, 320]
def k0_off24 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v269 : Index := Scalar.indexCast arg13
  let c336 : Index := 336#32
  ![v269.toNat, 336]
def k0_off25 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v271 : Index := Scalar.indexCast arg13
  let c352 : Index := 352#32
  ![v271.toNat, 352]
def k0_off26 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v273 : Index := Scalar.indexCast arg13
  let c368 : Index := 368#32
  ![v273.toNat, 368]
def k0_off27 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v275 : Index := Scalar.indexCast arg13
  let c384 : Index := 384#32
  ![v275.toNat, 384]
def k0_off28 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v277 : Index := Scalar.indexCast arg13
  let c400 : Index := 400#32
  ![v277.toNat, 400]
def k0_off29 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v279 : Index := Scalar.indexCast arg13
  let c416 : Index := 416#32
  ![v279.toNat, 416]
def k0_off30 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v281 : Index := Scalar.indexCast arg13
  let c432 : Index := 432#32
  ![v281.toNat, 432]
def k0_off31 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v283 : Index := Scalar.indexCast arg13
  let c448 : Index := 448#32
  ![v283.toNat, 448]
def k0_off32 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v285 : Index := Scalar.indexCast arg13
  let c464 : Index := 464#32
  ![v285.toNat, 464]
def k0_off33 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v287 : Index := Scalar.indexCast arg13
  let c480 : Index := 480#32
  ![v287.toNat, 480]
def k0_off34 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v289 : Index := Scalar.indexCast arg13
  let c496 : Index := 496#32
  ![v289.toNat, 496]
def k0_off35 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v291 : Index := Scalar.indexCast arg13
  let c512 : Index := 512#32
  ![v291.toNat, 512]
def k0_off36 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v293 : Index := Scalar.indexCast arg13
  let c528 : Index := 528#32
  ![v293.toNat, 528]
def k0_off37 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v295 : Index := Scalar.indexCast arg13
  let c544 : Index := 544#32
  ![v295.toNat, 544]
def k0_off38 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v297 : Index := Scalar.indexCast arg13
  let c560 : Index := 560#32
  ![v297.toNat, 560]
def k0_off39 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v299 : Index := Scalar.indexCast arg13
  let c576 : Index := 576#32
  ![v299.toNat, 576]
def k0_off40 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v301 : Index := Scalar.indexCast arg13
  let c592 : Index := 592#32
  ![v301.toNat, 592]
def k0_off41 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v303 : Index := Scalar.indexCast arg13
  let c608 : Index := 608#32
  ![v303.toNat, 608]
def k0_off42 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v305 : Index := Scalar.indexCast arg13
  let c624 : Index := 624#32
  ![v305.toNat, 624]
def k0_off43 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v307 : Index := Scalar.indexCast arg13
  let c640 : Index := 640#32
  ![v307.toNat, 640]
def k0_off44 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v309 : Index := Scalar.indexCast arg13
  let c656 : Index := 656#32
  ![v309.toNat, 656]
def k0_off45 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v311 : Index := Scalar.indexCast arg13
  let c672 : Index := 672#32
  ![v311.toNat, 672]
def k0_off46 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v313 : Index := Scalar.indexCast arg13
  let c688 : Index := 688#32
  ![v313.toNat, 688]
def k0_off47 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v315 : Index := Scalar.indexCast arg13
  let c704 : Index := 704#32
  ![v315.toNat, 704]
def k0_off48 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v317 : Index := Scalar.indexCast arg13
  let c720 : Index := 720#32
  ![v317.toNat, 720]
def k0_off49 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v319 : Index := Scalar.indexCast arg13
  let c736 : Index := 736#32
  ![v319.toNat, 736]
def k0_off50 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v321 : Index := Scalar.indexCast arg13
  let c752 : Index := 752#32
  ![v321.toNat, 752]
def k0_off51 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v323 : Index := Scalar.indexCast arg13
  let c768 : Index := 768#32
  ![v323.toNat, 768]
def k0_off52 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v325 : Index := Scalar.indexCast arg13
  let c784 : Index := 784#32
  ![v325.toNat, 784]
def k0_off53 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v327 : Index := Scalar.indexCast arg13
  let c800 : Index := 800#32
  ![v327.toNat, 800]
def k0_off54 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v329 : Index := Scalar.indexCast arg13
  let c816 : Index := 816#32
  ![v329.toNat, 816]
def k0_off55 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v331 : Index := Scalar.indexCast arg13
  let c832 : Index := 832#32
  ![v331.toNat, 832]
def k0_off56 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v333 : Index := Scalar.indexCast arg13
  let c848 : Index := 848#32
  ![v333.toNat, 848]
def k0_off57 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v335 : Index := Scalar.indexCast arg13
  let c864 : Index := 864#32
  ![v335.toNat, 864]
def k0_off58 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v337 : Index := Scalar.indexCast arg13
  let c880 : Index := 880#32
  ![v337.toNat, 880]
def k0_off59 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v339 : Index := Scalar.indexCast arg13
  let c896 : Index := 896#32
  ![v339.toNat, 896]
def k0_off60 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v341 : Index := Scalar.indexCast arg13
  let c912 : Index := 912#32
  ![v341.toNat, 912]
def k0_off61 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v343 : Index := Scalar.indexCast arg13
  let c928 : Index := 928#32
  ![v343.toNat, 928]
def k0_off62 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v345 : Index := Scalar.indexCast arg13
  let c944 : Index := 944#32
  ![v345.toNat, 944]
def k0_off63 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v347 : Index := Scalar.indexCast arg13
  let c960 : Index := 960#32
  ![v347.toNat, 960]
def k0_off64 (k0_t1 : Fin k0_t1_loop.trips) : Fin 2 → Nat :=
  let c0_i32_7 : BitVec 32 := 0#32
  let c1_i32 : BitVec 32 := 1#32
  let arg13 : BitVec 32 := Scf.iv c0_i32_7 c1_i32 k0_t1
  let v349 : Index := Scalar.indexCast arg13
  let c976 : Index := 976#32
  ![v349.toNat, 976]

def k0_chk1 (v16 : IVec S16 32) (v17 : IVec S16 32) : Prop :=
  (∀ a x, ((![v16, v17] : Fin 2 → IVec S16 32) a x).toNat < S32x1000.size a)
theorem k0_idx1_inb : ∀ (v16 : IVec S16 32) (v17 : IVec S16 32) (k0_hw1 : k0_chk1 v16 v17), ∀ a x, ((![v16, v17] : Fin 2 → IVec S16 32) a x).toNat < S32x1000.size a := fun v16 v17 k0_hw1 => k0_hw1

def k0_chk2 (v16 : IVec S16 32) (v18 : IVec S16 32) : Prop :=
  (∀ a x, ((![v16, v18] : Fin 2 → IVec S16 32) a x).toNat < S32x1000.size a)
theorem k0_idx2_inb : ∀ (v16 : IVec S16 32) (v18 : IVec S16 32) (k0_hw2 : k0_chk2 v16 v18), ∀ a x, ((![v16, v18] : Fin 2 → IVec S16 32) a x).toNat < S32x1000.size a := fun v16 v18 k0_hw2 => k0_hw2

def k0_chk3 (v16 : IVec S16 32) (v19 : IVec S16 32) : Prop :=
  (∀ a x, ((![v16, v19] : Fin 2 → IVec S16 32) a x).toNat < S32x1000.size a)
theorem k0_idx3_inb : ∀ (v16 : IVec S16 32) (v19 : IVec S16 32) (k0_hw3 : k0_chk3 v16 v19), ∀ a x, ((![v16, v19] : Fin 2 → IVec S16 32) a x).toNat < S32x1000.size a := fun v16 v19 k0_hw3 => k0_hw3

def k0_chk4 (v16 : IVec S16 32) (v20 : IVec S16 32) : Prop :=
  (∀ a x, ((![v16, v20] : Fin 2 → IVec S16 32) a x).toNat < S32x1000.size a)
theorem k0_idx4_inb : ∀ (v16 : IVec S16 32) (v20 : IVec S16 32) (k0_hw4 : k0_chk4 v16 v20), ∀ a x, ((![v16, v20] : Fin 2 → IVec S16 32) a x).toNat < S32x1000.size a := fun v16 v20 k0_hw4 => k0_hw4

def k0_chk5 (v16 : IVec S16 32) (v21 : IVec S16 32) : Prop :=
  (∀ a x, ((![v16, v21] : Fin 2 → IVec S16 32) a x).toNat < S32x1000.size a)
theorem k0_idx5_inb : ∀ (v16 : IVec S16 32) (v21 : IVec S16 32) (k0_hw5 : k0_chk5 v16 v21), ∀ a x, ((![v16, v21] : Fin 2 → IVec S16 32) a x).toNat < S32x1000.size a := fun v16 v21 k0_hw5 => k0_hw5

def k0_chk6 (v16 : IVec S16 32) (v22 : IVec S16 32) : Prop :=
  (∀ a x, ((![v16, v22] : Fin 2 → IVec S16 32) a x).toNat < S32x1000.size a)
theorem k0_idx6_inb : ∀ (v16 : IVec S16 32) (v22 : IVec S16 32) (k0_hw6 : k0_chk6 v16 v22), ∀ a x, ((![v16, v22] : Fin 2 → IVec S16 32) a x).toNat < S32x1000.size a := fun v16 v22 k0_hw6 => k0_hw6

def k0_chk7 (v16 : IVec S16 32) (v23 : IVec S16 32) : Prop :=
  (∀ a x, ((![v16, v23] : Fin 2 → IVec S16 32) a x).toNat < S32x1000.size a)
theorem k0_idx7_inb : ∀ (v16 : IVec S16 32) (v23 : IVec S16 32) (k0_hw7 : k0_chk7 v16 v23), ∀ a x, ((![v16, v23] : Fin 2 → IVec S16 32) a x).toNat < S32x1000.size a := fun v16 v23 k0_hw7 => k0_hw7

def k0_chk8 (v16 : IVec S16 32) (v24 : IVec S16 32) : Prop :=
  (∀ a x, ((![v16, v24] : Fin 2 → IVec S16 32) a x).toNat < S32x1000.size a)
theorem k0_idx8_inb : ∀ (v16 : IVec S16 32) (v24 : IVec S16 32) (k0_hw8 : k0_chk8 v16 v24), ∀ a x, ((![v16, v24] : Fin 2 → IVec S16 32) a x).toNat < S32x1000.size a := fun v16 v24 k0_hw8 => k0_hw8

def k0_chk9 (v26 : IVec S16 32) (v27 : IVec S16 32) : Prop :=
  (∀ a x, ((![v26, v27] : Fin 2 → IVec S16 32) a x).toNat < S32x1000.size a)
theorem k0_idx9_inb : ∀ (v26 : IVec S16 32) (v27 : IVec S16 32) (k0_hw9 : k0_chk9 v26 v27), ∀ a x, ((![v26, v27] : Fin 2 → IVec S16 32) a x).toNat < S32x1000.size a := fun v26 v27 k0_hw9 => k0_hw9

def k0_chk10 (v26 : IVec S16 32) (v28 : IVec S16 32) : Prop :=
  (∀ a x, ((![v26, v28] : Fin 2 → IVec S16 32) a x).toNat < S32x1000.size a)
theorem k0_idx10_inb : ∀ (v26 : IVec S16 32) (v28 : IVec S16 32) (k0_hw10 : k0_chk10 v26 v28), ∀ a x, ((![v26, v28] : Fin 2 → IVec S16 32) a x).toNat < S32x1000.size a := fun v26 v28 k0_hw10 => k0_hw10

def k0_chk11 (v26 : IVec S16 32) (v29 : IVec S16 32) : Prop :=
  (∀ a x, ((![v26, v29] : Fin 2 → IVec S16 32) a x).toNat < S32x1000.size a)
theorem k0_idx11_inb : ∀ (v26 : IVec S16 32) (v29 : IVec S16 32) (k0_hw11 : k0_chk11 v26 v29), ∀ a x, ((![v26, v29] : Fin 2 → IVec S16 32) a x).toNat < S32x1000.size a := fun v26 v29 k0_hw11 => k0_hw11

def k0_chk12 (v26 : IVec S16 32) (v30 : IVec S16 32) : Prop :=
  (∀ a x, ((![v26, v30] : Fin 2 → IVec S16 32) a x).toNat < S32x1000.size a)
theorem k0_idx12_inb : ∀ (v26 : IVec S16 32) (v30 : IVec S16 32) (k0_hw12 : k0_chk12 v26 v30), ∀ a x, ((![v26, v30] : Fin 2 → IVec S16 32) a x).toNat < S32x1000.size a := fun v26 v30 k0_hw12 => k0_hw12

def k0_chk13 (v26 : IVec S16 32) (v31 : IVec S16 32) : Prop :=
  (∀ a x, ((![v26, v31] : Fin 2 → IVec S16 32) a x).toNat < S32x1000.size a)
theorem k0_idx13_inb : ∀ (v26 : IVec S16 32) (v31 : IVec S16 32) (k0_hw13 : k0_chk13 v26 v31), ∀ a x, ((![v26, v31] : Fin 2 → IVec S16 32) a x).toNat < S32x1000.size a := fun v26 v31 k0_hw13 => k0_hw13

def k0_chk14 (v26 : IVec S16 32) (v32 : IVec S16 32) : Prop :=
  (∀ a x, ((![v26, v32] : Fin 2 → IVec S16 32) a x).toNat < S32x1000.size a)
theorem k0_idx14_inb : ∀ (v26 : IVec S16 32) (v32 : IVec S16 32) (k0_hw14 : k0_chk14 v26 v32), ∀ a x, ((![v26, v32] : Fin 2 → IVec S16 32) a x).toNat < S32x1000.size a := fun v26 v32 k0_hw14 => k0_hw14

def k0_chk15 (v26 : IVec S16 32) (v33 : IVec S16 32) : Prop :=
  (∀ a x, ((![v26, v33] : Fin 2 → IVec S16 32) a x).toNat < S32x1000.size a)
theorem k0_idx15_inb : ∀ (v26 : IVec S16 32) (v33 : IVec S16 32) (k0_hw15 : k0_chk15 v26 v33), ∀ a x, ((![v26, v33] : Fin 2 → IVec S16 32) a x).toNat < S32x1000.size a := fun v26 v33 k0_hw15 => k0_hw15

def k0_chk16 (v26 : IVec S16 32) (v34 : IVec S16 32) : Prop :=
  (∀ a x, ((![v26, v34] : Fin 2 → IVec S16 32) a x).toNat < S32x1000.size a)
theorem k0_idx16_inb : ∀ (v26 : IVec S16 32) (v34 : IVec S16 32) (k0_hw16 : k0_chk16 v26 v34), ∀ a x, ((![v26, v34] : Fin 2 → IVec S16 32) a x).toNat < S32x1000.size a := fun v26 v34 k0_hw16 => k0_hw16

def k0_chk17 (v35 : IVec S16 32) (v37 : IVec S16 32) : Prop :=
  (∀ a x, ((![v37, v35] : Fin 2 → IVec S16 32) a x).toNat < S32x1000.size a)
theorem k0_idx17_inb : ∀ (v35 : IVec S16 32) (v37 : IVec S16 32) (k0_hw17 : k0_chk17 v35 v37), ∀ a x, ((![v37, v35] : Fin 2 → IVec S16 32) a x).toNat < S32x1000.size a := fun v35 v37 k0_hw17 => k0_hw17

def k0_chk18 (v38 : IVec S16 32) (v40 : IVec S16 32) : Prop :=
  (∀ a x, ((![v40, v38] : Fin 2 → IVec S16 32) a x).toNat < S32x1000.size a)
theorem k0_idx18_inb : ∀ (v38 : IVec S16 32) (v40 : IVec S16 32) (k0_hw18 : k0_chk18 v38 v40), ∀ a x, ((![v40, v38] : Fin 2 → IVec S16 32) a x).toNat < S32x1000.size a := fun v38 v40 k0_hw18 => k0_hw18
def k0_off65 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c0_i32_22 : BitVec 32 := 0#32
  let v41 : BitVec 32 := Scalar.addi v2 c0_i32_22
  let c0_i32_158_r1 : BitVec 32 := 0#32
  ![v41.toNat, 0]

def k0_chk19 (v42 : IVec S16 32) (v44 : IVec S16 32) : Prop :=
  (∀ a x, ((![v44, v42] : Fin 2 → IVec S16 32) a x).toNat < S32x1000.size a)
theorem k0_idx19_inb : ∀ (v42 : IVec S16 32) (v44 : IVec S16 32) (k0_hw19 : k0_chk19 v42 v44), ∀ a x, ((![v44, v42] : Fin 2 → IVec S16 32) a x).toNat < S32x1000.size a := fun v42 v44 k0_hw19 => k0_hw19

def k0_chk20 (v45 : IVec S16 32) (v47 : IVec S16 32) : Prop :=
  (∀ a x, ((![v47, v45] : Fin 2 → IVec S16 32) a x).toNat < S32x1000.size a)
theorem k0_idx20_inb : ∀ (v45 : IVec S16 32) (v47 : IVec S16 32) (k0_hw20 : k0_chk20 v45 v47), ∀ a x, ((![v47, v45] : Fin 2 → IVec S16 32) a x).toNat < S32x1000.size a := fun v45 v47 k0_hw20 => k0_hw20
def k0_off66 (i : grid0.Coords) (c0_i32 : BitVec 32) : Fin 2 → Nat :=
  let c8192_i32 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v6 : BitVec 32 := Scalar.addi c8192_i32 v2
  let v7 : BitVec 32 := Scalar.addi v6 c0_i32
  let c0_i32_27 : BitVec 32 := 0#32
  ![v7.toNat, 0]

def k0_chk21 (v60 : IVec S16 32) (v62 : IVec S16 32) : Prop :=
  (∀ a x, ((![v62, v60] : Fin 2 → IVec S16 32) a x).toNat < S32x1000.size a)
theorem k0_idx21_inb : ∀ (v60 : IVec S16 32) (v62 : IVec S16 32) (k0_hw21 : k0_chk21 v60 v62), ∀ a x, ((![v62, v60] : Fin 2 → IVec S16 32) a x).toNat < S32x1000.size a := fun v60 v62 k0_hw21 => k0_hw21

def k0_chk22 (v63 : IVec S16 32) (v65 : IVec S16 32) : Prop :=
  (∀ a x, ((![v65, v63] : Fin 2 → IVec S16 32) a x).toNat < S32x1000.size a)
theorem k0_idx22_inb : ∀ (v63 : IVec S16 32) (v65 : IVec S16 32) (k0_hw22 : k0_chk22 v63 v65), ∀ a x, ((![v65, v63] : Fin 2 → IVec S16 32) a x).toNat < S32x1000.size a := fun v63 v65 k0_hw22 => k0_hw22
def k0_off67 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c32_i32_40 : BitVec 32 := 32#32
  let v66 : BitVec 32 := Scalar.addi v2 c32_i32_40
  let c0_i32_158_r2 : BitVec 32 := 0#32
  ![v66.toNat, 0]

def k0_chk23 (v67 : IVec S16 32) (v69 : IVec S16 32) : Prop :=
  (∀ a x, ((![v69, v67] : Fin 2 → IVec S16 32) a x).toNat < S32x1000.size a)
theorem k0_idx23_inb : ∀ (v67 : IVec S16 32) (v69 : IVec S16 32) (k0_hw23 : k0_chk23 v67 v69), ∀ a x, ((![v69, v67] : Fin 2 → IVec S16 32) a x).toNat < S32x1000.size a := fun v67 v69 k0_hw23 => k0_hw23

def k0_chk24 (v70 : IVec S16 32) (v72 : IVec S16 32) : Prop :=
  (∀ a x, ((![v72, v70] : Fin 2 → IVec S16 32) a x).toNat < S32x1000.size a)
theorem k0_idx24_inb : ∀ (v70 : IVec S16 32) (v72 : IVec S16 32) (k0_hw24 : k0_chk24 v70 v72), ∀ a x, ((![v72, v70] : Fin 2 → IVec S16 32) a x).toNat < S32x1000.size a := fun v70 v72 k0_hw24 => k0_hw24
def k0_off68 (i : grid0.Coords) (c32_i32 : BitVec 32) : Fin 2 → Nat :=
  let c8192_i32_3 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v10 : BitVec 32 := Scalar.addi c8192_i32_3 v2
  let v11 : BitVec 32 := Scalar.addi v10 c32_i32
  let c0_i32_45 : BitVec 32 := 0#32
  ![v11.toNat, 0]

def k0_chk25 (v85 : IVec S16 32) (v87 : IVec S16 32) : Prop :=
  (∀ a x, ((![v87, v85] : Fin 2 → IVec S16 32) a x).toNat < S32x1000.size a)
theorem k0_idx25_inb : ∀ (v85 : IVec S16 32) (v87 : IVec S16 32) (k0_hw25 : k0_chk25 v85 v87), ∀ a x, ((![v87, v85] : Fin 2 → IVec S16 32) a x).toNat < S32x1000.size a := fun v85 v87 k0_hw25 => k0_hw25

def k0_chk26 (v88 : IVec S16 32) (v90 : IVec S16 32) : Prop :=
  (∀ a x, ((![v90, v88] : Fin 2 → IVec S16 32) a x).toNat < S32x1000.size a)
theorem k0_idx26_inb : ∀ (v88 : IVec S16 32) (v90 : IVec S16 32) (k0_hw26 : k0_chk26 v88 v90), ∀ a x, ((![v90, v88] : Fin 2 → IVec S16 32) a x).toNat < S32x1000.size a := fun v88 v90 k0_hw26 => k0_hw26
def k0_off69 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c64_i32_58 : BitVec 32 := 64#32
  let v91 : BitVec 32 := Scalar.addi v2 c64_i32_58
  let c0_i32_158_r3 : BitVec 32 := 0#32
  ![v91.toNat, 0]

def k0_chk27 (v92 : IVec S16 32) (v94 : IVec S16 32) : Prop :=
  (∀ a x, ((![v94, v92] : Fin 2 → IVec S16 32) a x).toNat < S32x1000.size a)
theorem k0_idx27_inb : ∀ (v92 : IVec S16 32) (v94 : IVec S16 32) (k0_hw27 : k0_chk27 v92 v94), ∀ a x, ((![v94, v92] : Fin 2 → IVec S16 32) a x).toNat < S32x1000.size a := fun v92 v94 k0_hw27 => k0_hw27

def k0_chk28 (v95 : IVec S16 32) (v97 : IVec S16 32) : Prop :=
  (∀ a x, ((![v97, v95] : Fin 2 → IVec S16 32) a x).toNat < S32x1000.size a)
theorem k0_idx28_inb : ∀ (v95 : IVec S16 32) (v97 : IVec S16 32) (k0_hw28 : k0_chk28 v95 v97), ∀ a x, ((![v97, v95] : Fin 2 → IVec S16 32) a x).toNat < S32x1000.size a := fun v95 v97 k0_hw28 => k0_hw28
def k0_off70 (i : grid0.Coords) (c64_i32 : BitVec 32) : Fin 2 → Nat :=
  let c8192_i32_35 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v56 : BitVec 32 := Scalar.addi c8192_i32_35 v2
  let v57 : BitVec 32 := Scalar.addi v56 c64_i32
  let c0_i32_63 : BitVec 32 := 0#32
  ![v57.toNat, 0]

def k0_chk29 (v110 : IVec S16 32) (v112 : IVec S16 32) : Prop :=
  (∀ a x, ((![v112, v110] : Fin 2 → IVec S16 32) a x).toNat < S32x1000.size a)
theorem k0_idx29_inb : ∀ (v110 : IVec S16 32) (v112 : IVec S16 32) (k0_hw29 : k0_chk29 v110 v112), ∀ a x, ((![v112, v110] : Fin 2 → IVec S16 32) a x).toNat < S32x1000.size a := fun v110 v112 k0_hw29 => k0_hw29

def k0_chk30 (v113 : IVec S16 32) (v115 : IVec S16 32) : Prop :=
  (∀ a x, ((![v115, v113] : Fin 2 → IVec S16 32) a x).toNat < S32x1000.size a)
theorem k0_idx30_inb : ∀ (v113 : IVec S16 32) (v115 : IVec S16 32) (k0_hw30 : k0_chk30 v113 v115), ∀ a x, ((![v115, v113] : Fin 2 → IVec S16 32) a x).toNat < S32x1000.size a := fun v113 v115 k0_hw30 => k0_hw30
def k0_off71 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c96_i32_76 : BitVec 32 := 96#32
  let v116 : BitVec 32 := Scalar.addi v2 c96_i32_76
  let c0_i32_158_r4 : BitVec 32 := 0#32
  ![v116.toNat, 0]

def k0_chk31 (v117 : IVec S16 32) (v119 : IVec S16 32) : Prop :=
  (∀ a x, ((![v119, v117] : Fin 2 → IVec S16 32) a x).toNat < S32x1000.size a)
theorem k0_idx31_inb : ∀ (v117 : IVec S16 32) (v119 : IVec S16 32) (k0_hw31 : k0_chk31 v117 v119), ∀ a x, ((![v119, v117] : Fin 2 → IVec S16 32) a x).toNat < S32x1000.size a := fun v117 v119 k0_hw31 => k0_hw31

def k0_chk32 (v120 : IVec S16 32) (v122 : IVec S16 32) : Prop :=
  (∀ a x, ((![v122, v120] : Fin 2 → IVec S16 32) a x).toNat < S32x1000.size a)
theorem k0_idx32_inb : ∀ (v120 : IVec S16 32) (v122 : IVec S16 32) (k0_hw32 : k0_chk32 v120 v122), ∀ a x, ((![v122, v120] : Fin 2 → IVec S16 32) a x).toNat < S32x1000.size a := fun v120 v122 k0_hw32 => k0_hw32
def k0_off72 (i : grid0.Coords) (c96_i32 : BitVec 32) : Fin 2 → Nat :=
  let c8192_i32_53 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v81 : BitVec 32 := Scalar.addi c8192_i32_53 v2
  let v82 : BitVec 32 := Scalar.addi v81 c96_i32
  let c0_i32_81 : BitVec 32 := 0#32
  ![v82.toNat, 0]

def k0_chk33 (v135 : IVec S16 32) (v137 : IVec S16 32) : Prop :=
  (∀ a x, ((![v137, v135] : Fin 2 → IVec S16 32) a x).toNat < S32x1000.size a)
theorem k0_idx33_inb : ∀ (v135 : IVec S16 32) (v137 : IVec S16 32) (k0_hw33 : k0_chk33 v135 v137), ∀ a x, ((![v137, v135] : Fin 2 → IVec S16 32) a x).toNat < S32x1000.size a := fun v135 v137 k0_hw33 => k0_hw33

def k0_chk34 (v138 : IVec S16 32) (v140 : IVec S16 32) : Prop :=
  (∀ a x, ((![v140, v138] : Fin 2 → IVec S16 32) a x).toNat < S32x1000.size a)
theorem k0_idx34_inb : ∀ (v138 : IVec S16 32) (v140 : IVec S16 32) (k0_hw34 : k0_chk34 v138 v140), ∀ a x, ((![v140, v138] : Fin 2 → IVec S16 32) a x).toNat < S32x1000.size a := fun v138 v140 k0_hw34 => k0_hw34
def k0_off73 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c128_i32_94 : BitVec 32 := 128#32
  let v141 : BitVec 32 := Scalar.addi v2 c128_i32_94
  let c0_i32_158_r5 : BitVec 32 := 0#32
  ![v141.toNat, 0]

def k0_chk35 (v142 : IVec S16 32) (v144 : IVec S16 32) : Prop :=
  (∀ a x, ((![v144, v142] : Fin 2 → IVec S16 32) a x).toNat < S32x1000.size a)
theorem k0_idx35_inb : ∀ (v142 : IVec S16 32) (v144 : IVec S16 32) (k0_hw35 : k0_chk35 v142 v144), ∀ a x, ((![v144, v142] : Fin 2 → IVec S16 32) a x).toNat < S32x1000.size a := fun v142 v144 k0_hw35 => k0_hw35

def k0_chk36 (v145 : IVec S16 32) (v147 : IVec S16 32) : Prop :=
  (∀ a x, ((![v147, v145] : Fin 2 → IVec S16 32) a x).toNat < S32x1000.size a)
theorem k0_idx36_inb : ∀ (v145 : IVec S16 32) (v147 : IVec S16 32) (k0_hw36 : k0_chk36 v145 v147), ∀ a x, ((![v147, v145] : Fin 2 → IVec S16 32) a x).toNat < S32x1000.size a := fun v145 v147 k0_hw36 => k0_hw36
def k0_off74 (i : grid0.Coords) (c128_i32 : BitVec 32) : Fin 2 → Nat :=
  let c8192_i32_71 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v106 : BitVec 32 := Scalar.addi c8192_i32_71 v2
  let v107 : BitVec 32 := Scalar.addi v106 c128_i32
  let c0_i32_99 : BitVec 32 := 0#32
  ![v107.toNat, 0]

def k0_chk37 (v160 : IVec S16 32) (v162 : IVec S16 32) : Prop :=
  (∀ a x, ((![v162, v160] : Fin 2 → IVec S16 32) a x).toNat < S32x1000.size a)
theorem k0_idx37_inb : ∀ (v160 : IVec S16 32) (v162 : IVec S16 32) (k0_hw37 : k0_chk37 v160 v162), ∀ a x, ((![v162, v160] : Fin 2 → IVec S16 32) a x).toNat < S32x1000.size a := fun v160 v162 k0_hw37 => k0_hw37

def k0_chk38 (v163 : IVec S16 32) (v165 : IVec S16 32) : Prop :=
  (∀ a x, ((![v165, v163] : Fin 2 → IVec S16 32) a x).toNat < S32x1000.size a)
theorem k0_idx38_inb : ∀ (v163 : IVec S16 32) (v165 : IVec S16 32) (k0_hw38 : k0_chk38 v163 v165), ∀ a x, ((![v165, v163] : Fin 2 → IVec S16 32) a x).toNat < S32x1000.size a := fun v163 v165 k0_hw38 => k0_hw38
def k0_off75 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c160_i32_112 : BitVec 32 := 160#32
  let v166 : BitVec 32 := Scalar.addi v2 c160_i32_112
  let c0_i32_158_r6 : BitVec 32 := 0#32
  ![v166.toNat, 0]

def k0_chk39 (v167 : IVec S16 32) (v169 : IVec S16 32) : Prop :=
  (∀ a x, ((![v169, v167] : Fin 2 → IVec S16 32) a x).toNat < S32x1000.size a)
theorem k0_idx39_inb : ∀ (v167 : IVec S16 32) (v169 : IVec S16 32) (k0_hw39 : k0_chk39 v167 v169), ∀ a x, ((![v169, v167] : Fin 2 → IVec S16 32) a x).toNat < S32x1000.size a := fun v167 v169 k0_hw39 => k0_hw39

def k0_chk40 (v170 : IVec S16 32) (v172 : IVec S16 32) : Prop :=
  (∀ a x, ((![v172, v170] : Fin 2 → IVec S16 32) a x).toNat < S32x1000.size a)
theorem k0_idx40_inb : ∀ (v170 : IVec S16 32) (v172 : IVec S16 32) (k0_hw40 : k0_chk40 v170 v172), ∀ a x, ((![v172, v170] : Fin 2 → IVec S16 32) a x).toNat < S32x1000.size a := fun v170 v172 k0_hw40 => k0_hw40
def k0_off76 (i : grid0.Coords) (c160_i32 : BitVec 32) : Fin 2 → Nat :=
  let c8192_i32_89 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v131 : BitVec 32 := Scalar.addi c8192_i32_89 v2
  let v132 : BitVec 32 := Scalar.addi v131 c160_i32
  let c0_i32_117 : BitVec 32 := 0#32
  ![v132.toNat, 0]

def k0_chk41 (v185 : IVec S16 32) (v187 : IVec S16 32) : Prop :=
  (∀ a x, ((![v187, v185] : Fin 2 → IVec S16 32) a x).toNat < S32x1000.size a)
theorem k0_idx41_inb : ∀ (v185 : IVec S16 32) (v187 : IVec S16 32) (k0_hw41 : k0_chk41 v185 v187), ∀ a x, ((![v187, v185] : Fin 2 → IVec S16 32) a x).toNat < S32x1000.size a := fun v185 v187 k0_hw41 => k0_hw41

def k0_chk42 (v188 : IVec S16 32) (v190 : IVec S16 32) : Prop :=
  (∀ a x, ((![v190, v188] : Fin 2 → IVec S16 32) a x).toNat < S32x1000.size a)
theorem k0_idx42_inb : ∀ (v188 : IVec S16 32) (v190 : IVec S16 32) (k0_hw42 : k0_chk42 v188 v190), ∀ a x, ((![v190, v188] : Fin 2 → IVec S16 32) a x).toNat < S32x1000.size a := fun v188 v190 k0_hw42 => k0_hw42
def k0_off77 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c192_i32_130 : BitVec 32 := 192#32
  let v191 : BitVec 32 := Scalar.addi v2 c192_i32_130
  let c0_i32_158_r7 : BitVec 32 := 0#32
  ![v191.toNat, 0]

def k0_chk43 (v192 : IVec S16 32) (v194 : IVec S16 32) : Prop :=
  (∀ a x, ((![v194, v192] : Fin 2 → IVec S16 32) a x).toNat < S32x1000.size a)
theorem k0_idx43_inb : ∀ (v192 : IVec S16 32) (v194 : IVec S16 32) (k0_hw43 : k0_chk43 v192 v194), ∀ a x, ((![v194, v192] : Fin 2 → IVec S16 32) a x).toNat < S32x1000.size a := fun v192 v194 k0_hw43 => k0_hw43

def k0_chk44 (v195 : IVec S16 32) (v197 : IVec S16 32) : Prop :=
  (∀ a x, ((![v197, v195] : Fin 2 → IVec S16 32) a x).toNat < S32x1000.size a)
theorem k0_idx44_inb : ∀ (v195 : IVec S16 32) (v197 : IVec S16 32) (k0_hw44 : k0_chk44 v195 v197), ∀ a x, ((![v197, v195] : Fin 2 → IVec S16 32) a x).toNat < S32x1000.size a := fun v195 v197 k0_hw44 => k0_hw44
def k0_off78 (i : grid0.Coords) : Fin 2 → Nat :=
  let c8192_i32_107 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v156 : BitVec 32 := Scalar.addi c8192_i32_107 v2
  let c192_i32 : BitVec 32 := 192#32
  let v157 : BitVec 32 := Scalar.addi v156 c192_i32
  let c0_i32_135 : BitVec 32 := 0#32
  ![v157.toNat, 0]

def k0_chk45 (v204 : IVec S16 32) (v206 : IVec S16 32) : Prop :=
  (∀ a x, ((![v206, v204] : Fin 2 → IVec S16 32) a x).toNat < S32x1000.size a)
theorem k0_idx45_inb : ∀ (v204 : IVec S16 32) (v206 : IVec S16 32) (k0_hw45 : k0_chk45 v204 v206), ∀ a x, ((![v206, v204] : Fin 2 → IVec S16 32) a x).toNat < S32x1000.size a := fun v204 v206 k0_hw45 => k0_hw45

def k0_chk46 (v207 : IVec S16 32) (v209 : IVec S16 32) : Prop :=
  (∀ a x, ((![v209, v207] : Fin 2 → IVec S16 32) a x).toNat < S32x1000.size a)
theorem k0_idx46_inb : ∀ (v207 : IVec S16 32) (v209 : IVec S16 32) (k0_hw46 : k0_chk46 v207 v209), ∀ a x, ((![v209, v207] : Fin 2 → IVec S16 32) a x).toNat < S32x1000.size a := fun v207 v209 k0_hw46 => k0_hw46
def k0_off79 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let c224_i32_143 : BitVec 32 := 224#32
  let v210 : BitVec 32 := Scalar.addi v2 c224_i32_143
  let c0_i32_158_r8 : BitVec 32 := 0#32
  ![v210.toNat, 0]

def k0_chk47 (v211 : IVec S16 32) (v213 : IVec S16 32) : Prop :=
  (∀ a x, ((![v213, v211] : Fin 2 → IVec S16 32) a x).toNat < S32x1000.size a)
theorem k0_idx47_inb : ∀ (v211 : IVec S16 32) (v213 : IVec S16 32) (k0_hw47 : k0_chk47 v211 v213), ∀ a x, ((![v213, v211] : Fin 2 → IVec S16 32) a x).toNat < S32x1000.size a := fun v211 v213 k0_hw47 => k0_hw47

def k0_chk48 (v214 : IVec S16 32) (v216 : IVec S16 32) : Prop :=
  (∀ a x, ((![v216, v214] : Fin 2 → IVec S16 32) a x).toNat < S32x1000.size a)
theorem k0_idx48_inb : ∀ (v214 : IVec S16 32) (v216 : IVec S16 32) (k0_hw48 : k0_chk48 v214 v216), ∀ a x, ((![v216, v214] : Fin 2 → IVec S16 32) a x).toNat < S32x1000.size a := fun v214 v216 k0_hw48 => k0_hw48
def k0_off80 (i : grid0.Coords) (c224_i32 : BitVec 32) : Fin 2 → Nat :=
  let c8192_i32_125 : BitVec 32 := 8192#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c256_i32 : BitVec 32 := 256#32
  let v2 : BitVec 32 := Scalar.muli v1 c256_i32
  let v181 : BitVec 32 := Scalar.addi c8192_i32_125 v2
  let v182 : BitVec 32 := Scalar.addi v181 c224_i32
  let c0_i32_148 : BitVec 32 := 0#32
  ![v182.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1000 : Shape := ⟨2, ![16384, 1000]⟩
abbrev S8192 : Shape := ⟨1, ![8192]⟩
abbrev S_ : Shape := ⟨0, ![]⟩
abbrev S8192x1 : Shape := ⟨2, ![8192, 1]⟩
abbrev S8192x1000 : Shape := ⟨2, ![8192, 1000]⟩
abbrev S8192x2 : Shape := ⟨2, ![8192, 2]⟩

abbrev nBuf : Space → Nat
  | .hbm => 44
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S8192, .i32⟩
  | .hbm, ⟨2, _⟩ => ⟨S8192, .i32⟩
  | .hbm, ⟨3, _⟩ => ⟨S8192, .i32⟩
  | .hbm, ⟨4, _⟩ => ⟨S_, .f32⟩
  | .hbm, ⟨5, _⟩ => ⟨S16384x1000, .f32⟩
  | .hbm, ⟨6, _⟩ => ⟨S_, .i32⟩
  | .hbm, ⟨7, _⟩ => ⟨S8192, .i32⟩
  | .hbm, ⟨8, _⟩ => ⟨S8192, .i1⟩
  | .hbm, ⟨9, _⟩ => ⟨S_, .i32⟩
  | .hbm, ⟨10, _⟩ => ⟨S8192, .i32⟩
  | .hbm, ⟨11, _⟩ => ⟨S8192, .i32⟩
  | .hbm, ⟨12, _⟩ => ⟨S8192, .i32⟩
  | .hbm, ⟨13, _⟩ => ⟨S8192x1, .i32⟩
  | .hbm, ⟨14, _⟩ => ⟨S8192x1000, .f32⟩
  | .hbm, ⟨15, _⟩ => ⟨S_, .i32⟩
  | .hbm, ⟨16, _⟩ => ⟨S8192, .i32⟩
  | .hbm, ⟨17, _⟩ => ⟨S8192, .i1⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S8192x1, .i32⟩
  | .hbm, ⟨23, _⟩ => ⟨S16384x1000, .f32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S8192x1, .i32⟩
  | .hbm, ⟨39, _⟩ => ⟨S8192x1, .i32⟩
  | .hbm, ⟨40, _⟩ => ⟨S8192x2, .i32⟩
  | .hbm, ⟨41, _⟩ => ⟨S_, .f32⟩
  | .hbm, ⟨42, _⟩ => ⟨S8192, .f32⟩
  | .hbm, ⟨43, _⟩ => ⟨S16384x1000, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.Program.lean ====
/-
  The kernel's body read as a sequence of the moves it makes: fetch the labels, clear the block the labels are written
  in, and eight times write one block of 32 labelled rows and pass one block of 32 given rows through. Each move is a
  definition over its own places (the rows, the semaphore, the checks), and `body_eq` says that the generated body is
  their sequence.
-/
module

public import proofs.«01_k».proof.Proof.Gen.KernelIdeal
public import proofs.«01_k».proof.Proof.Gen.KernelIdeal.Skeleton

@[expose] public section

set_option synthInstance.maxSize 4096

noncomputable section

namespace Cert.Proof

open Cert.KernelIdeal Cert.KernelIdeal.Gen
open Idealize.ShloMosaic Idealize.SL.Sem

variable {F : FTy → Type} [FloatOps F] {c : Fin τ.nSC} {s : Fin τ.nSub}

/-- A program of one vector subcore. -/
abbrev Tile (F : FTy → Type) [FloatOps F] (c : Fin τ.nSC) (s : Fin τ.nSub) (α : Type) :=
  Prog (TpuEff nD τ sig (Elt F) Λ₀ (.scVector c s)) α

/-- The four arrays of the call and the scratches, as a subcore names them. -/
abbrev probsM : Memref sig .scVector .hbm S16384x1000 .f32 := Memref.whole main_arg0_scv
abbrev labelsM : Memref sig .scVector .hbm S8192 .i32 := Memref.whole main_arg1_scv
abbrev outM : Memref sig .scVector .hbm S16384x1000 .f32 := Memref.whole main_v0_scv
abbrev myLabels : Memref sig .scVector .vmem S256 .i32 := Memref.whole cc0_scratch0
abbrev hot : Memref sig .scVector .vmem S32x1000 .f32 := Memref.whole cc0_scratch1

/-- 32 rows of an array of 16384, at `o`. -/
abbrev rowsOf (a : Memref sig .scVector .hbm S16384x1000 .f32) (o : Fin 2 → Nat) (ho : ∀ x, o x + S32x1000.size x ≤ S16384x1000.size x) :
    Memref sig .scVector .hbm S32x1000 .f32 :=
  a.slice (Rect.unit (s := S16384x1000) o S32x1000.size ho) (fun _ => rfl)

/-- The lane numbers 0 to 15. -/
abbrev lanes : IVec S16 32 := iota .scVector S16 32 [0] iota_S16_d0_w32_scVector

/-- A check the kernel makes of a vector of columns and one of rows, and that it says that they name places of a block. -/
structure Check where
  P : IVec S16 32 → IVec S16 32 → Prop
  dec : ∀ v w, Decidable (P v w)
  iff : ∀ v w, P v w ↔ ∀ a x, ((![w, v] : Fin 2 → IVec S16 32) a x).toNat < S32x1000.size a

/-- Sixteen places of a block: their rows, their columns, the check made of them. -/
structure Places where
  rows : IVec S16 32
  cols : IVec S16 32
  chk : Check

/-- Write `v` at sixteen places of the block, having checked them. -/
def put (v : FVec F S16 .f32) (p : Places) : Tile F c s PUnit := do
  have h : p.chk.P p.cols p.rows := (← Prog.lift (TpuEff.assume (p.chk.P p.cols p.rows) (p.chk.dec p.cols p.rows))).down
  SparseCore.vectorStoreIdx hot ![p.rows, p.cols] v (fun _ => 1#1) false ((p.chk.iff p.cols p.rows).1 h) (View.stores_vmem_bits_univ h_S32x1000 rfl)

/-- Write `v` at each of a list of sixteens. -/
def putAll (v : FVec F S16 .f32) : List Places → Tile F c s PUnit
  | [] => pure ⟨⟩
  | p :: ps => do put v p; putAll v ps

/-- Write `v` at the rows `r` and the columns that the sixteen labels from `n` on name. -/
def putLabels (v : FVec F S16 .f32) (n : Nat) (hn : ∀ a, (![n] : Fin 1 → Nat) a + S16.size a ≤ S256.size a) (r : IVec S16 32) (q : Check) :
    Tile F c s PUnit := do
  let l : Vec F S16 .i32 ← Prog.lift (.load myLabels (Rect.unit (s := S256) ![n] S16.size hn).toLoadRect (View.loadsAt_vmem h_S16))
  put v ⟨r, l, q⟩

/-- Fetch this subcore's 256 labels. -/
def fetchLabels (o : Fin 1 → Nat) (ho : ∀ x, o x + S256.size x ≤ S8192.size x) (sem : DmaSem sig) : Tile F c s PUnit := do
  let src : Memref sig .scVector .hbm S256 .i32 := labelsM.slice (Rect.unit (s := S8192) o S256.size ho) (fun _ => rfl)
  Prog.lift (.enqueueDma src (.here myLabels) (.dma sem) (View.wordExact_bits rfl) (Memref.isWhole_whole cc0_scratch0).wordExact ⟨Or.inl rfl, trivial⟩)
  Prog.lift (.waitDma2 sem src myLabels (View.wordExact_bits rfl) (Memref.isWhole_whole cc0_scratch0).wordExact)

/-- Where a store of sixteen columns of one row goes. -/
abbrev Strip := {o : Fin 2 → Nat // ∀ a, o a + S1x16.size a ≤ S32x1000.size a}

/-- Clear the strips of a list, reading each before. -/
def clearStrips : List Strip → Tile F c s Unit
  | [] => pure ⟨⟩
  | o :: os => do
    let _ : Vec F S1x16 .f32 ← Prog.lift (.load hot (Rect.unit (s := S32x1000) o.1 S1x16.size o.2).toLoadRect (View.loadsAt_vmem h_S1x16))
    Prog.lift (.store hot (Rect.unit (s := S32x1000) o.1 S1x16.size o.2) (shapeCast S1x16 (k0_pay3 (F := F)) shapeCasts_S16_S1x16) Finset.univ (View.stores_vmem_bits_univ h_S1x16 rfl) (.inl rfl))
    clearStrips os

/-- The strips cleared in trip `t`: the columns below 992 of row `t`. -/
def strips (t : Fin k0_t1_loop.trips) : List Strip :=
  [ ⟨k0_off3 t, k0_off3_inb t⟩,
    ⟨k0_off4 t, k0_off4_inb t⟩,
    ⟨k0_off5 t, k0_off5_inb t⟩,
    ⟨k0_off6 t, k0_off6_inb t⟩,
    ⟨k0_off7 t, k0_off7_inb t⟩,
    ⟨k0_off8 t, k0_off8_inb t⟩,
    ⟨k0_off9 t, k0_off9_inb t⟩,
    ⟨k0_off10 t, k0_off10_inb t⟩,
    ⟨k0_off11 t, k0_off11_inb t⟩,
    ⟨k0_off12 t, k0_off12_inb t⟩,
    ⟨k0_off13 t, k0_off13_inb t⟩,
    ⟨k0_off14 t, k0_off14_inb t⟩,
    ⟨k0_off15 t, k0_off15_inb t⟩,
    ⟨k0_off16 t, k0_off16_inb t⟩,
    ⟨k0_off17 t, k0_off17_inb t⟩,
    ⟨k0_off18 t, k0_off18_inb t⟩,
    ⟨k0_off19 t, k0_off19_inb t⟩,
    ⟨k0_off20 t, k0_off20_inb t⟩,
    ⟨k0_off21 t, k0_off21_inb t⟩,
    ⟨k0_off22 t, k0_off22_inb t⟩,
    ⟨k0_off23 t, k0_off23_inb t⟩,
    ⟨k0_off24 t, k0_off24_inb t⟩,
    ⟨k0_off25 t, k0_off25_inb t⟩,
    ⟨k0_off26 t, k0_off26_inb t⟩,
    ⟨k0_off27 t, k0_off27_inb t⟩,
    ⟨k0_off28 t, k0_off28_inb t⟩,
    ⟨k0_off29 t, k0_off29_inb t⟩,
    ⟨k0_off30 t, k0_off30_inb t⟩,
    ⟨k0_off31 t, k0_off31_inb t⟩,
    ⟨k0_off32 t, k0_off32_inb t⟩,
    ⟨k0_off33 t, k0_off33_inb t⟩,
    ⟨k0_off34 t, k0_off34_inb t⟩,
    ⟨k0_off35 t, k0_off35_inb t⟩,
    ⟨k0_off36 t, k0_off36_inb t⟩,
    ⟨k0_off37 t, k0_off37_inb t⟩,
    ⟨k0_off38 t, k0_off38_inb t⟩,
    ⟨k0_off39 t, k0_off39_inb t⟩,
    ⟨k0_off40 t, k0_off40_inb t⟩,
    ⟨k0_off41 t, k0_off41_inb t⟩,
    ⟨k0_off42 t, k0_off42_inb t⟩,
    ⟨k0_off43 t, k0_off43_inb t⟩,
    ⟨k0_off44 t, k0_off44_inb t⟩,
    ⟨k0_off45 t, k0_off45_inb t⟩,
    ⟨k0_off46 t, k0_off46_inb t⟩,
    ⟨k0_off47 t, k0_off47_inb t⟩,
    ⟨k0_off48 t, k0_off48_inb t⟩,
    ⟨k0_off49 t, k0_off49_inb t⟩,
    ⟨k0_off50 t, k0_off50_inb t⟩,
    ⟨k0_off51 t, k0_off51_inb t⟩,
    ⟨k0_off52 t, k0_off52_inb t⟩,
    ⟨k0_off53 t, k0_off53_inb t⟩,
    ⟨k0_off54 t, k0_off54_inb t⟩,
    ⟨k0_off55 t, k0_off55_inb t⟩,
    ⟨k0_off56 t, k0_off56_inb t⟩,
    ⟨k0_off57 t, k0_off57_inb t⟩,
    ⟨k0_off58 t, k0_off58_inb t⟩,
    ⟨k0_off59 t, k0_off59_inb t⟩,
    ⟨k0_off60 t, k0_off60_inb t⟩,
    ⟨k0_off61 t, k0_off61_inb t⟩,
    ⟨k0_off62 t, k0_off62_inb t⟩,
    ⟨k0_off63 t, k0_off63_inb t⟩,
    ⟨k0_off64 t, k0_off64_inb t⟩ ]

/-- The places cleared after the loop: the columns from 992 on, of the rows 0 to 15 and of the rows 16 to 31. -/
def tails₀ : List Places :=
  [ ⟨k0_pay5, broadcast S16 992#32, ⟨fun v w => k0_chk1 w v, fun v w => k0_chk1.dec w v, fun _ _ => Iff.rfl⟩⟩,
    ⟨k0_pay5, broadcast S16 993#32, ⟨fun v w => k0_chk2 w v, fun v w => k0_chk2.dec w v, fun _ _ => Iff.rfl⟩⟩,
    ⟨k0_pay5, broadcast S16 994#32, ⟨fun v w => k0_chk3 w v, fun v w => k0_chk3.dec w v, fun _ _ => Iff.rfl⟩⟩ ]
@[inherit_doc tails₀] def tails₁ : List Places :=
  [ ⟨k0_pay5, broadcast S16 995#32, ⟨fun v w => k0_chk4 w v, fun v w => k0_chk4.dec w v, fun _ _ => Iff.rfl⟩⟩,
    ⟨k0_pay5, broadcast S16 996#32, ⟨fun v w => k0_chk5 w v, fun v w => k0_chk5.dec w v, fun _ _ => Iff.rfl⟩⟩,
    ⟨k0_pay5, broadcast S16 997#32, ⟨fun v w => k0_chk6 w v, fun v w => k0_chk6.dec w v, fun _ _ => Iff.rfl⟩⟩,
    ⟨k0_pay5, broadcast S16 998#32, ⟨fun v w => k0_chk7 w v, fun v w => k0_chk7.dec w v, fun _ _ => Iff.rfl⟩⟩,
    ⟨k0_pay5, broadcast S16 999#32, ⟨fun v w => k0_chk8 w v, fun v w => k0_chk8.dec w v, fun _ _ => Iff.rfl⟩⟩,
    ⟨k0_pay7 lanes, broadcast S16 992#32, ⟨fun v w => k0_chk9 w v, fun v w => k0_chk9.dec w v, fun _ _ => Iff.rfl⟩⟩,
    ⟨k0_pay7 lanes, broadcast S16 993#32, ⟨fun v w => k0_chk10 w v, fun v w => k0_chk10.dec w v, fun _ _ => Iff.rfl⟩⟩,
    ⟨k0_pay7 lanes, broadcast S16 994#32, ⟨fun v w => k0_chk11 w v, fun v w => k0_chk11.dec w v, fun _ _ => Iff.rfl⟩⟩,
    ⟨k0_pay7 lanes, broadcast S16 995#32, ⟨fun v w => k0_chk12 w v, fun v w => k0_chk12.dec w v, fun _ _ => Iff.rfl⟩⟩,
    ⟨k0_pay7 lanes, broadcast S16 996#32, ⟨fun v w => k0_chk13 w v, fun v w => k0_chk13.dec w v, fun _ _ => Iff.rfl⟩⟩,
    ⟨k0_pay7 lanes, broadcast S16 997#32, ⟨fun v w => k0_chk14 w v, fun v w => k0_chk14.dec w v, fun _ _ => Iff.rfl⟩⟩,
    ⟨k0_pay7 lanes, broadcast S16 998#32, ⟨fun v w => k0_chk15 w v, fun v w => k0_chk15.dec w v, fun _ _ => Iff.rfl⟩⟩,
    ⟨k0_pay7 lanes, broadcast S16 999#32, ⟨fun v w => k0_chk16 w v, fun v w => k0_chk16.dec w v, fun _ _ => Iff.rfl⟩⟩ ]

/-- Writing at two lists, one after the other. -/
theorem putAll_append (v : FVec F S16 .f32) (ps qs : List Places) :
    (putAll v (ps ++ qs) : Tile F c s PUnit) = (do putAll v ps; putAll v qs) := by
  induction ps with
  | nil => rfl
  | cons p ps ih => simp only [List.cons_append, putAll, ih, bind_assoc]

/-- The two blocks the given rows pass through. -/
abbrev buf0 : Memref sig .scVector .vmem S32x1000 .f32 := Memref.whole cc0_scratch2
abbrev buf1 : Memref sig .scVector .vmem S32x1000 .f32 := Memref.whole cc0_scratch3

section Moves

variable (b : Memref sig .scVector .vmem S32x1000 .f32) (hb : b.IsWhole)
variable (o : Fin 2 → Nat) (ho : ∀ x, o x + S32x1000.size x ≤ S16384x1000.size x) (sem : DmaSem sig)

/-- Start fetching the given rows at `o` into the block `b`. -/
def fetchStart : Tile F c s PUnit :=
  Prog.lift (.enqueueDma (rowsOf probsM o ho) (.here b) (.dma sem) (View.wordExact_bits rfl) hb.wordExact ⟨Or.inl rfl, trivial⟩)

/-- Wait for them. -/
def fetchWait : Tile F c s PUnit :=
  Prog.lift (.waitDma2 sem (rowsOf probsM o ho) b (View.wordExact_bits rfl) hb.wordExact)

/-- Start writing the block `b` out to the result's rows at `o`. -/
def putStart : Tile F c s PUnit :=
  Prog.lift (.enqueueDma b (.here (rowsOf outM o ho)) (.dma sem) hb.wordExact (View.wordExact_bits rfl) ⟨Or.inl rfl, trivial⟩)

/-- Wait for it. -/
def putWait : Tile F c s PUnit :=
  Prog.lift (.waitDma2 sem b (rowsOf outM o ho) hb.wordExact (View.wordExact_bits rfl))

end Moves

/-- Write one block of labelled rows: set the ones its 32 labels name, write the block out, and clear them again. -/
def labelBlock (o : Fin 2 → Nat) (ho : ∀ x, o x + S32x1000.size x ≤ S16384x1000.size x) (n₀ n₁ : Nat)
    (h₀ : ∀ a, (![n₀] : Fin 1 → Nat) a + S16.size a ≤ S256.size a) (h₁ : ∀ a, (![n₁] : Fin 1 → Nat) a + S16.size a ≤ S256.size a)
    (sem : DmaSem sig) (q₀ q₁ q₂ q₃ : Check) : Tile F c s PUnit := do
  putLabels k0_pay4 n₀ h₀ (addi lanes (broadcast S16 0#32)) q₀
  putLabels k0_pay4 n₁ h₁ (addi lanes (broadcast S16 16#32)) q₁
  putStart hot (Memref.isWhole_whole _) o ho sem
  putWait hot (Memref.isWhole_whole _) o ho sem
  putLabels k0_pay3 n₀ h₀ (addi lanes (broadcast S16 0#32)) q₂
  putLabels k0_pay3 n₁ h₁ (addi lanes (broadcast S16 16#32)) q₃

/-- The checks made of the labels: of each block of 32, two before the ones are set and two before they are cleared. -/
abbrev q17 : Check := ⟨fun v w => k0_chk17 v w, fun v w => k0_chk17.dec v w, fun _ _ => Iff.rfl⟩
abbrev q18 : Check := ⟨fun v w => k0_chk18 v w, fun v w => k0_chk18.dec v w, fun _ _ => Iff.rfl⟩
abbrev q19 : Check := ⟨fun v w => k0_chk19 v w, fun v w => k0_chk19.dec v w, fun _ _ => Iff.rfl⟩
abbrev q20 : Check := ⟨fun v w => k0_chk20 v w, fun v w => k0_chk20.dec v w, fun _ _ => Iff.rfl⟩
abbrev q21 : Check := ⟨fun v w => k0_chk21 v w, fun v w => k0_chk21.dec v w, fun _ _ => Iff.rfl⟩
abbrev q22 : Check := ⟨fun v w => k0_chk22 v w, fun v w => k0_chk22.dec v w, fun _ _ => Iff.rfl⟩
abbrev q23 : Check := ⟨fun v w => k0_chk23 v w, fun v w => k0_chk23.dec v w, fun _ _ => Iff.rfl⟩
abbrev q24 : Check := ⟨fun v w => k0_chk24 v w, fun v w => k0_chk24.dec v w, fun _ _ => Iff.rfl⟩
abbrev q25 : Check := ⟨fun v w => k0_chk25 v w, fun v w => k0_chk25.dec v w, fun _ _ => Iff.rfl⟩
abbrev q26 : Check := ⟨fun v w => k0_chk26 v w, fun v w => k0_chk26.dec v w, fun _ _ => Iff.rfl⟩
abbrev q27 : Check := ⟨fun v w => k0_chk27 v w, fun v w => k0_chk27.dec v w, fun _ _ => Iff.rfl⟩
abbrev q28 : Check := ⟨fun v w => k0_chk28 v w, fun v w => k0_chk28.dec v w, fun _ _ => Iff.rfl⟩
abbrev q29 : Check := ⟨fun v w => k0_chk29 v w, fun v w => k0_chk29.dec v w, fun _ _ => Iff.rfl⟩
abbrev q30 : Check := ⟨fun v w => k0_chk30 v w, fun v w => k0_chk30.dec v w, fun _ _ => Iff.rfl⟩
abbrev q31 : Check := ⟨fun v w => k0_chk31 v w, fun v w => k0_chk31.dec v w, fun _ _ => Iff.rfl⟩
abbrev q32 : Check := ⟨fun v w => k0_chk32 v w, fun v w => k0_chk32.dec v w, fun _ _ => Iff.rfl⟩
abbrev q33 : Check := ⟨fun v w => k0_chk33 v w, fun v w => k0_chk33.dec v w, fun _ _ => Iff.rfl⟩
abbrev q34 : Check := ⟨fun v w => k0_chk34 v w, fun v w => k0_chk34.dec v w, fun _ _ => Iff.rfl⟩
abbrev q35 : Check := ⟨fun v w => k0_chk35 v w, fun v w => k0_chk35.dec v w, fun _ _ => Iff.rfl⟩
abbrev q36 : Check := ⟨fun v w => k0_chk36 v w, fun v w => k0_chk36.dec v w, fun _ _ => Iff.rfl⟩
abbrev q37 : Check := ⟨fun v w => k0_chk37 v w, fun v w => k0_chk37.dec v w, fun _ _ => Iff.rfl⟩
abbrev q38 : Check := ⟨fun v w => k0_chk38 v w, fun v w => k0_chk38.dec v w, fun _ _ => Iff.rfl⟩
abbrev q39 : Check := ⟨fun v w => k0_chk39 v w, fun v w => k0_chk39.dec v w, fun _ _ => Iff.rfl⟩
abbrev q40 : Check := ⟨fun v w => k0_chk40 v w, fun v w => k0_chk40.dec v w, fun _ _ => Iff.rfl⟩
abbrev q41 : Check := ⟨fun v w => k0_chk41 v w, fun v w => k0_chk41.dec v w, fun _ _ => Iff.rfl⟩
abbrev q42 : Check := ⟨fun v w => k0_chk42 v w, fun v w => k0_chk42.dec v w, fun _ _ => Iff.rfl⟩
abbrev q43 : Check := ⟨fun v w => k0_chk43 v w, fun v w => k0_chk43.dec v w, fun _ _ => Iff.rfl⟩
abbrev q44 : Check := ⟨fun v w => k0_chk44 v w, fun v w => k0_chk44.dec v w, fun _ _ => Iff.rfl⟩
abbrev q45 : Check := ⟨fun v w => k0_chk45 v w, fun v w => k0_chk45.dec v w, fun _ _ => Iff.rfl⟩
abbrev q46 : Check := ⟨fun v w => k0_chk46 v w, fun v w => k0_chk46.dec v w, fun _ _ => Iff.rfl⟩
abbrev q47 : Check := ⟨fun v w => k0_chk47 v w, fun v w => k0_chk47.dec v w, fun _ _ => Iff.rfl⟩
abbrev q48 : Check := ⟨fun v w => k0_chk48 v w, fun v w => k0_chk48.dec v w, fun _ _ => Iff.rfl⟩

/-- The body of subcore `i`. -/
def moves (i : grid0.Coords) : Tile F ((i 0).castLE hcore0) ((i 1).castLE hsub0) PUnit := do
  fetchLabels (k0_off1 i) (k0_off1_inb i) cc0_scoped0.sem
  fetchStart buf0 (Memref.isWhole_whole _) (k0_off2 i 0#32) (k0_off2_inb i 0) cc0_scratch4.sem
  fetchStart buf1 (Memref.isWhole_whole _) (k0_off2 i 32#32) (k0_off2_inb i 1) cc0_scratch5.sem
  Scf.Loop.for k0_t1_loop k0_t1_ok ⟨⟩ fun t _ => clearStrips (strips t)
  putAll k0_pay3 (tails₀ ++ tails₁)
  labelBlock (k0_off65 i) (k0_off65_inb i) 0 16 inb_S256_S16_0 inb_S256_S16_16 cc0_scoped1.sem q17 q18 q19 q20
  fetchWait buf0 (Memref.isWhole_whole _) (k0_off66 i 0#32) (k0_off66_inb i 0) cc0_scratch4.sem
  putStart buf0 (Memref.isWhole_whole _) (k0_off66 i 0#32) (k0_off66_inb i 0) cc0_scratch6.sem
  putWait buf0 (Memref.isWhole_whole _) (k0_off66 i 0#32) (k0_off66_inb i 0) cc0_scratch6.sem
  fetchStart buf0 (Memref.isWhole_whole _) (k0_off66 i 64#32) (k0_off66_inb i 1) cc0_scratch4.sem
  labelBlock (k0_off67 i) (k0_off67_inb i) 32 48 inb_S256_S16_32 inb_S256_S16_48 cc0_scoped2.sem q21 q22 q23 q24
  fetchWait buf1 (Memref.isWhole_whole _) (k0_off68 i 32#32) (k0_off68_inb i 0) cc0_scratch5.sem
  putStart buf1 (Memref.isWhole_whole _) (k0_off68 i 32#32) (k0_off68_inb i 0) cc0_scratch7.sem
  putWait buf1 (Memref.isWhole_whole _) (k0_off68 i 32#32) (k0_off68_inb i 0) cc0_scratch7.sem
  fetchStart buf1 (Memref.isWhole_whole _) (k0_off68 i 96#32) (k0_off68_inb i 1) cc0_scratch5.sem
  labelBlock (k0_off69 i) (k0_off69_inb i) 64 80 inb_S256_S16_64 inb_S256_S16_80 cc0_scoped3.sem q25 q26 q27 q28
  fetchWait buf0 (Memref.isWhole_whole _) (k0_off70 i 64#32) (k0_off70_inb i 0) cc0_scratch4.sem
  putStart buf0 (Memref.isWhole_whole _) (k0_off70 i 64#32) (k0_off70_inb i 0) cc0_scratch6.sem
  putWait buf0 (Memref.isWhole_whole _) (k0_off70 i 64#32) (k0_off70_inb i 0) cc0_scratch6.sem
  fetchStart buf0 (Memref.isWhole_whole _) (k0_off70 i 128#32) (k0_off70_inb i 1) cc0_scratch4.sem
  labelBlock (k0_off71 i) (k0_off71_inb i) 96 112 inb_S256_S16_96 inb_S256_S16_112 cc0_scoped4.sem q29 q30 q31 q32
  fetchWait buf1 (Memref.isWhole_whole _) (k0_off72 i 96#32) (k0_off72_inb i 0) cc0_scratch5.sem
  putStart buf1 (Memref.isWhole_whole _) (k0_off72 i 96#32) (k0_off72_inb i 0) cc0_scratch7.sem
  putWait buf1 (Memref.isWhole_whole _) (k0_off72 i 96#32) (k0_off72_inb i 0) cc0_scratch7.sem
  fetchStart buf1 (Memref.isWhole_whole _) (k0_off72 i 160#32) (k0_off72_inb i 1) cc0_scratch5.sem
  labelBlock (k0_off73 i) (k0_off73_inb i) 128 144 inb_S256_S16_128 inb_S256_S16_144 cc0_scoped5.sem q33 q34 q35 q36
  fetchWait buf0 (Memref.isWhole_whole _) (k0_off74 i 128#32) (k0_off74_inb i 0) cc0_scratch4.sem
  putStart buf0 (Memref.isWhole_whole _) (k0_off74 i 128#32) (k0_off74_inb i 0) cc0_scratch6.sem
  putWait buf0 (Memref.isWhole_whole _) (k0_off74 i 128#32) (k0_off74_inb i 0) cc0_scratch6.sem
  fetchStart buf0 (Memref.isWhole_whole _) (k0_off74 i 192#32) (k0_off74_inb i 1) cc0_scratch4.sem
  labelBlock (k0_off75 i) (k0_off75_inb i) 160 176 inb_S256_S16_160 inb_S256_S16_176 cc0_scoped6.sem q37 q38 q39 q40
  fetchWait buf1 (Memref.isWhole_whole _) (k0_off76 i 160#32) (k0_off76_inb i 0) cc0_scratch5.sem
  putStart buf1 (Memref.isWhole_whole _) (k0_off76 i 160#32) (k0_off76_inb i 0) cc0_scratch7.sem
  putWait buf1 (Memref.isWhole_whole _) (k0_off76 i 160#32) (k0_off76_inb i 0) cc0_scratch7.sem
  fetchStart buf1 (Memref.isWhole_whole _) (k0_off76 i 224#32) (k0_off76_inb i 1) cc0_scratch5.sem
  labelBlock (k0_off77 i) (k0_off77_inb i) 192 208 inb_S256_S16_192 inb_S256_S16_208 cc0_scoped7.sem q41 q42 q43 q44
  fetchWait buf0 (Memref.isWhole_whole _) (k0_off78 i) (k0_off78_inb i) cc0_scratch4.sem
  putStart buf0 (Memref.isWhole_whole _) (k0_off78 i) (k0_off78_inb i) cc0_scratch6.sem
  labelBlock (k0_off79 i) (k0_off79_inb i) 224 240 inb_S256_S16_224 inb_S256_S16_240 cc0_scoped8.sem q45 q46 q47 q48
  fetchWait buf1 (Memref.isWhole_whole _) (k0_off80 i 224#32) (k0_off80_inb i 1) cc0_scratch5.sem
  putStart buf1 (Memref.isWhole_whole _) (k0_off80 i 224#32) (k0_off80_inb i 1) cc0_scratch7.sem
  putWait buf0 (Memref.isWhole_whole _) (k0_off80 i 192#32) (k0_off80_inb i 0) cc0_scratch6.sem
  putWait buf1 (Memref.isWhole_whole _) (k0_off80 i 224#32) (k0_off80_inb i 1) cc0_scratch7.sem

/-! The generated body comes in pieces cut at places of their own: each is a run of the moves. -/

section Pieces
set_option maxRecDepth 65536

private theorem clear_eq (i : grid0.Coords) (t : Fin k0_t1_loop.trips) (u : Unit) :
    (k0_t1_body i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 t u : Tile F _ _ Unit) = clearStrips (strips t) := rfl

private theorem part6_eq (i : grid0.Coords) :
    (k0_part6 i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 : Tile F _ _ _) = (do
    fetchLabels (k0_off1 i) (k0_off1_inb i) cc0_scoped0.sem
    fetchStart buf0 (Memref.isWhole_whole _) (k0_off2 i 0#32) (k0_off2_inb i 0) cc0_scratch4.sem
    fetchStart buf1 (Memref.isWhole_whole _) (k0_off2 i 32#32) (k0_off2_inb i 1) cc0_scratch5.sem
    Scf.Loop.for k0_t1_loop k0_t1_ok ⟨⟩ fun t _ => clearStrips (strips t)
    putAll k0_pay3 tails₀
    pure ⟨Scalar.muli (Scalar.addi (Scalar.muli (BitVec.ofNat 32 (i 0).val) 16#32) (BitVec.ofNat 32 (i 1).val)) 256#32, k0_pay3 (F := F), k0_pay4 (F := F), lanes, k0_pay5, k0_pay6⟩) := by
  rw [k0_part6_eq_skeleton]
  unfold k0_part6_skel
  simp only [← clear_eq i]
  rfl

private theorem part7_eq (i : grid0.Coords) : (k0_part7 i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 k0_pay3 k0_pay4 lanes k0_pay5 k0_pay6 : Tile F _ _ PUnit) = (do
    putAll k0_pay3 tails₁
    putLabels k0_pay4 0 inb_S256_S16_0 (addi lanes (broadcast S16 0#32)) q17) := by rw [k0_part7_eq_skeleton]; rfl

private theorem part8_eq (i : grid0.Coords) (v : BitVec 32) : (k0_part8 i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 v k0_pay3 k0_pay4 lanes : Tile F _ _ PUnit) = (do
    putLabels k0_pay4 16 inb_S256_S16_16 (addi lanes (broadcast S16 16#32)) q18
    putStart hot (Memref.isWhole_whole _) (k0_off65 i) (k0_off65_inb i) cc0_scoped1.sem
    putWait hot (Memref.isWhole_whole _) (k0_off65 i) (k0_off65_inb i) cc0_scoped1.sem
    putLabels k0_pay3 0 inb_S256_S16_0 (addi lanes (broadcast S16 0#32)) q19
    putLabels k0_pay3 16 inb_S256_S16_16 (addi lanes (broadcast S16 16#32)) q20
    fetchWait buf0 (Memref.isWhole_whole _) (k0_off66 i 0#32) (k0_off66_inb i 0) cc0_scratch4.sem
    putStart buf0 (Memref.isWhole_whole _) (k0_off66 i 0#32) (k0_off66_inb i 0) cc0_scratch6.sem
    putWait buf0 (Memref.isWhole_whole _) (k0_off66 i 0#32) (k0_off66_inb i 0) cc0_scratch6.sem) := by rw [k0_part8_eq_skeleton]; rfl

private theorem part9_eq (i : grid0.Coords) (v : BitVec 32) : (k0_part9 i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 v k0_pay3 k0_pay4 lanes : Tile F _ _ PUnit) = (do
    fetchStart buf0 (Memref.isWhole_whole _) (k0_off66 i 64#32) (k0_off66_inb i 1) cc0_scratch4.sem
    putLabels k0_pay4 32 inb_S256_S16_32 (addi lanes (broadcast S16 0#32)) q21
    putLabels k0_pay4 48 inb_S256_S16_48 (addi lanes (broadcast S16 16#32)) q22
    putStart hot (Memref.isWhole_whole _) (k0_off67 i) (k0_off67_inb i) cc0_scoped2.sem
    putWait hot (Memref.isWhole_whole _) (k0_off67 i) (k0_off67_inb i) cc0_scoped2.sem
    putLabels k0_pay3 32 inb_S256_S16_32 (addi lanes (broadcast S16 0#32)) q23
    putLabels k0_pay3 48 inb_S256_S16_48 (addi lanes (broadcast S16 16#32)) q24
    fetchWait buf1 (Memref.isWhole_whole _) (k0_off68 i 32#32) (k0_off68_inb i 0) cc0_scratch5.sem
    putStart buf1 (Memref.isWhole_whole _) (k0_off68 i 32#32) (k0_off68_inb i 0) cc0_scratch7.sem
    putWait buf1 (Memref.isWhole_whole _) (k0_off68 i 32#32) (k0_off68_inb i 0) cc0_scratch7.sem) := by rw [k0_part9_eq_skeleton]; rfl

private theorem part10_eq (i : grid0.Coords) (v : BitVec 32) : (k0_part10 i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 v k0_pay3 k0_pay4 lanes : Tile F _ _ PUnit) = (do
    fetchStart buf1 (Memref.isWhole_whole _) (k0_off68 i 96#32) (k0_off68_inb i 1) cc0_scratch5.sem
    putLabels k0_pay4 64 inb_S256_S16_64 (addi lanes (broadcast S16 0#32)) q25
    putLabels k0_pay4 80 inb_S256_S16_80 (addi lanes (broadcast S16 16#32)) q26
    putStart hot (Memref.isWhole_whole _) (k0_off69 i) (k0_off69_inb i) cc0_scoped3.sem
    putWait hot (Memref.isWhole_whole _) (k0_off69 i) (k0_off69_inb i) cc0_scoped3.sem
    putLabels k0_pay3 64 inb_S256_S16_64 (addi lanes (broadcast S16 0#32)) q27
    putLabels k0_pay3 80 inb_S256_S16_80 (addi lanes (broadcast S16 16#32)) q28
    fetchWait buf0 (Memref.isWhole_whole _) (k0_off70 i 64#32) (k0_off70_inb i 0) cc0_scratch4.sem) := by rw [k0_part10_eq_skeleton]; rfl

private theorem part11_eq (i : grid0.Coords) (v : BitVec 32) : (k0_part11 i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 v k0_pay3 k0_pay4 lanes : Tile F _ _ PUnit) = (do
    putStart buf0 (Memref.isWhole_whole _) (k0_off70 i 64#32) (k0_off70_inb i 0) cc0_scratch6.sem
    putWait buf0 (Memref.isWhole_whole _) (k0_off70 i 64#32) (k0_off70_inb i 0) cc0_scratch6.sem
    fetchStart buf0 (Memref.isWhole_whole _) (k0_off70 i 128#32) (k0_off70_inb i 1) cc0_scratch4.sem
    putLabels k0_pay4 96 inb_S256_S16_96 (addi lanes (broadcast S16 0#32)) q29
    putLabels k0_pay4 112 inb_S256_S16_112 (addi lanes (broadcast S16 16#32)) q30
    putStart hot (Memref.isWhole_whole _) (k0_off71 i) (k0_off71_inb i) cc0_scoped4.sem
    putWait hot (Memref.isWhole_whole _) (k0_off71 i) (k0_off71_inb i) cc0_scoped4.sem
    putLabels k0_pay3 96 inb_S256_S16_96 (addi lanes (broadcast S16 0#32)) q31
    putLabels k0_pay3 112 inb_S256_S16_112 (addi lanes (broadcast S16 16#32)) q32) := by rw [k0_part11_eq_skeleton]; rfl

private theorem part12_eq (i : grid0.Coords) (v : BitVec 32) : (k0_part12 i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 v k0_pay3 k0_pay4 lanes : Tile F _ _ (Vec F S16 .i32)) = (do
    fetchWait buf1 (Memref.isWhole_whole _) (k0_off72 i 96#32) (k0_off72_inb i 0) cc0_scratch5.sem
    putStart buf1 (Memref.isWhole_whole _) (k0_off72 i 96#32) (k0_off72_inb i 0) cc0_scratch7.sem
    putWait buf1 (Memref.isWhole_whole _) (k0_off72 i 96#32) (k0_off72_inb i 0) cc0_scratch7.sem
    fetchStart buf1 (Memref.isWhole_whole _) (k0_off72 i 160#32) (k0_off72_inb i 1) cc0_scratch5.sem
    putLabels k0_pay4 128 inb_S256_S16_128 (addi lanes (broadcast S16 0#32)) q33
    putLabels k0_pay4 144 inb_S256_S16_144 (addi lanes (broadcast S16 16#32)) q34
    putStart hot (Memref.isWhole_whole _) (k0_off73 i) (k0_off73_inb i) cc0_scoped5.sem
    putWait hot (Memref.isWhole_whole _) (k0_off73 i) (k0_off73_inb i) cc0_scoped5.sem
    putLabels k0_pay3 128 inb_S256_S16_128 (addi lanes (broadcast S16 0#32)) q35
    (Prog.lift (.load myLabels (Rect.unit (s := S256) ![144] S16.size inb_S256_S16_144).toLoadRect (View.loadsAt_vmem h_S16)) : Tile F _ _ (Vec F S16 .i32))) := by rw [k0_part12_eq_skeleton]; rfl

private theorem part13_eq (i : grid0.Coords) (v : BitVec 32) (l : Vec F S16 .i32) : (k0_part13 i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 v k0_pay3 k0_pay4 lanes l : Tile F _ _ PUnit) = (do
    put k0_pay3 ⟨(addi lanes (broadcast S16 16#32)), l, q36⟩
    fetchWait buf0 (Memref.isWhole_whole _) (k0_off74 i 128#32) (k0_off74_inb i 0) cc0_scratch4.sem
    putStart buf0 (Memref.isWhole_whole _) (k0_off74 i 128#32) (k0_off74_inb i 0) cc0_scratch6.sem
    putWait buf0 (Memref.isWhole_whole _) (k0_off74 i 128#32) (k0_off74_inb i 0) cc0_scratch6.sem
    fetchStart buf0 (Memref.isWhole_whole _) (k0_off74 i 192#32) (k0_off74_inb i 1) cc0_scratch4.sem
    putLabels k0_pay4 160 inb_S256_S16_160 (addi lanes (broadcast S16 0#32)) q37
    putLabels k0_pay4 176 inb_S256_S16_176 (addi lanes (broadcast S16 16#32)) q38
    putStart hot (Memref.isWhole_whole _) (k0_off75 i) (k0_off75_inb i) cc0_scoped6.sem
    putWait hot (Memref.isWhole_whole _) (k0_off75 i) (k0_off75_inb i) cc0_scoped6.sem) := by rw [k0_part13_eq_skeleton]; rfl

private theorem part14_eq (i : grid0.Coords) (v : BitVec 32) : (k0_part14 i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 v k0_pay3 k0_pay4 lanes : Tile F _ _ PUnit) = (do
    putLabels k0_pay3 160 inb_S256_S16_160 (addi lanes (broadcast S16 0#32)) q39
    putLabels k0_pay3 176 inb_S256_S16_176 (addi lanes (broadcast S16 16#32)) q40
    fetchWait buf1 (Memref.isWhole_whole _) (k0_off76 i 160#32) (k0_off76_inb i 0) cc0_scratch5.sem
    putStart buf1 (Memref.isWhole_whole _) (k0_off76 i 160#32) (k0_off76_inb i 0) cc0_scratch7.sem
    putWait buf1 (Memref.isWhole_whole _) (k0_off76 i 160#32) (k0_off76_inb i 0) cc0_scratch7.sem
    fetchStart buf1 (Memref.isWhole_whole _) (k0_off76 i 224#32) (k0_off76_inb i 1) cc0_scratch5.sem
    putLabels k0_pay4 192 inb_S256_S16_192 (addi lanes (broadcast S16 0#32)) q41
    putLabels k0_pay4 208 inb_S256_S16_208 (addi lanes (broadcast S16 16#32)) q42) := by rw [k0_part14_eq_skeleton]; rfl

private theorem part15_eq (i : grid0.Coords) (v : BitVec 32) : (k0_part15 i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 v k0_pay3 k0_pay4 lanes : Tile F _ _ PUnit) = (do
    putStart hot (Memref.isWhole_whole _) (k0_off77 i) (k0_off77_inb i) cc0_scoped7.sem
    putWait hot (Memref.isWhole_whole _) (k0_off77 i) (k0_off77_inb i) cc0_scoped7.sem
    putLabels k0_pay3 192 inb_S256_S16_192 (addi lanes (broadcast S16 0#32)) q43
    putLabels k0_pay3 208 inb_S256_S16_208 (addi lanes (broadcast S16 16#32)) q44
    fetchWait buf0 (Memref.isWhole_whole _) (k0_off78 i) (k0_off78_inb i) cc0_scratch4.sem
    putStart buf0 (Memref.isWhole_whole _) (k0_off78 i) (k0_off78_inb i) cc0_scratch6.sem
    putLabels k0_pay4 224 inb_S256_S16_224 (addi lanes (broadcast S16 0#32)) q45
    putLabels k0_pay4 240 inb_S256_S16_240 (addi lanes (broadcast S16 16#32)) q46
    putStart hot (Memref.isWhole_whole _) (k0_off79 i) (k0_off79_inb i) cc0_scoped8.sem) := by rw [k0_part15_eq_skeleton]; rfl

end Pieces

/-- The generated body, on the call's arrays and scratches, is that sequence. -/
theorem body_eq (i : grid0.Coords) :
    (cc0__body i probsM (Memref.isWhole_whole _) labelsM (Memref.isWhole_whole _) outM (Memref.isWhole_whole _) myLabels (Memref.isWhole_whole _) hot (Memref.isWhole_whole _) buf0 (Memref.isWhole_whole _) buf1 (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 : Tile F _ _ PUnit) = moves i := by
  rw [cc0__body_eq_skeleton]
  unfold cc0__body_skel moves labelBlock
  simp only [part6_eq, part7_eq, part8_eq, part9_eq, part10_eq, part11_eq, part12_eq, part13_eq, part14_eq, part15_eq, putAll_append, bind_assoc, pure_bind]
  rfl

end Cert.Proof
-- ==== Proof.Values.lean ====
/-
  The values, apart from the machine: what a scatter of one word leaves in a block, what two of them leave of the labels
  of 32 rows, and the array the kernel writes.
-/
module

public import proofs.«01_k».proof.Proof.Program

@[expose] public section

noncomputable section

namespace Cert.Proof

open Cert.KernelIdeal Cert.KernelIdeal.Gen
open Idealize.ShloMosaic

variable {F : FTy → Type} [FloatOps F]

/-- The word 0.0 and the word 1.0, as the kernel states them. -/
abbrev zeroW : F .f32 := Scalar.ofBits .f32 0x00000000#32
@[inherit_doc zeroW] abbrev oneW : F .f32 := Scalar.ofBits .f32 0x3F800000#32

/-- The lane of a number. -/
abbrev laneOf (k : Fin 16) : S16.Idx := Shape.ofLane k

/-- `j` is one of the sixteen places that a vector of rows and a vector of columns name. -/
def Named (rows cols : IVec S16 32) (j : S32x1000.Idx) : Prop :=
  ∃ x : S16.Idx, (j 0).val = (rows x).toNat ∧ (j 1).val = (cols x).toNat

open Classical in
/-- One lane's write. -/
def mark (rows cols : IVec S16 32) (w : F .f32) (g : Vec F S32x1000 .f32) (k : Fin 16) : Vec F S32x1000 .f32 := fun j =>
  if (j 0).val = (rows (laneOf k)).toNat ∧ (j 1).val = (cols (laneOf k)).toNat then w else g j

open Classical in
/-- The writes of a list of lanes, one after the other. -/
theorem foldl_mark (rows cols : IVec S16 32) (w : F .f32) (j : S32x1000.Idx) :
    ∀ (l : List (Fin 16)) (g : Vec F S32x1000 .f32), l.foldl (mark rows cols w) g j
      = if ∃ k ∈ l, (j 0).val = (rows (laneOf k)).toNat ∧ (j 1).val = (cols (laneOf k)).toNat then w else g j
  | [], g => by simp
  | k :: l, g => by
    rw [List.foldl_cons, foldl_mark rows cols w j l]
    by_cases h1 : ∃ k ∈ l, (j 0).val = (rows (laneOf k)).toNat ∧ (j 1).val = (cols (laneOf k)).toNat
    · rw [if_pos h1, if_pos (by obtain ⟨k', hk', e'⟩ := h1; exact ⟨k', List.mem_cons_of_mem _ hk', e'⟩)]
    · rw [if_neg h1]
      unfold mark
      by_cases h2 : (j 0).val = (rows (laneOf k)).toNat ∧ (j 1).val = (cols (laneOf k)).toNat
      · rw [if_pos h2, if_pos ⟨k, List.mem_cons_self, h2⟩]
      · rw [if_neg h2, if_neg]
        rintro ⟨k', hk', e'⟩
        rcases List.mem_cons.mp hk' with rfl | hk'
        · exact h2 e'
        · exact h1 ⟨k', hk', e'⟩

open Classical in
/-- A scatter of one word at sixteen places: the word at those places, every other element as before. -/
theorem storeIdx_word (f : Vec F S32x1000 .f32) (rows cols : IVec S16 32) (w : F .f32)
    (h : ∀ a x, ((![rows, cols] : Fin 2 → IVec S16 32) a x).toNat < S32x1000.size a) (j : S32x1000.Idx) :
    storeIdx (F := F) (s := S32x1000) (e := .f32) f ![rows, cols] (broadcast S16 w) (fun _ => 1#1) false h j
      = if Named rows cols j then w else f j := by
  have hm : storeIdx (F := F) (s := S32x1000) (e := .f32) f ![rows, cols] (broadcast S16 w) (fun _ => 1#1) false h
      = (List.finRange 16).foldl (mark rows cols w) f := by
    refine congrArg (fun s => List.foldl s f (List.finRange 16)) (funext fun g => funext fun k => funext fun j => ?_)
    by_cases e : (j 0).val = (rows (laneOf k)).toNat ∧ (j 1).val = (cols (laneOf k)).toNat
    · refine Eq.trans (if_pos fun a => ?_) (if_pos e).symm
      match a with
      | 0 => exact e.1
      | 1 => exact e.2
    · exact (if_neg fun e' => e ⟨e' 0, e' 1⟩).trans (if_neg e).symm
  rw [hm, foldl_mark]
  refine if_congr ?_ rfl rfl
  constructor
  · rintro ⟨k, -, e⟩; exact ⟨_, e⟩
  · rintro ⟨x, e⟩
    refine ⟨x 0, List.mem_finRange _, ?_⟩
    have hx : laneOf (x 0) = x := by
      funext a; apply Fin.ext; rw [Subsingleton.elim a 0]; rfl
    rw [hx]; exact e

/-! ## The lanes -/

/-- Lane `x` is the number `x`. -/
theorem lanes_toNat (x : S16.Idx) : (lanes x).toNat = (x 0).val := by
  have h : (x 0).val < 16 := (x 0).isLt
  show (BitVec.ofNat 32 (0 * _ + (x 0).val)).toNat = (x 0).val
  rw [BitVec.toNat_ofNat]; omega

/-- The rows 0 to 15 of a block, and the rows 16 to 31. -/
abbrev rows₀ : IVec S16 32 := addi lanes (broadcast S16 0#32)
@[inherit_doc rows₀] abbrev rows₁ : IVec S16 32 := addi lanes (broadcast S16 16#32)

theorem rows₀_toNat (x : S16.Idx) : (rows₀ x).toNat = (x 0).val := by
  have h : (x 0).val < 16 := (x 0).isLt
  show (lanes x + 0#32).toNat = (x 0).val
  rw [BitVec.toNat_add, lanes_toNat]; simp; omega

theorem rows₁_toNat (x : S16.Idx) : (rows₁ x).toNat = 16 + (x 0).val := by
  have h : (x 0).val < 16 := (x 0).isLt
  show (lanes x + 16#32).toNat = 16 + (x 0).val
  rw [BitVec.toNat_add, lanes_toNat]; simp; omega

/-- Places on the rows 0 to 15 at columns that `lab` gives. -/
theorem named_rows₀ {cols : IVec S16 32} {lab : Nat → Nat} (hc : ∀ x : S16.Idx, (cols x).toNat = lab (x 0).val) (j : S32x1000.Idx) :
    Named rows₀ cols j ↔ (j 0).val < 16 ∧ (j 1).val = lab (j 0).val := by
  constructor
  · rintro ⟨x, e0, e1⟩
    rw [rows₀_toNat] at e0; rw [hc] at e1
    have h : (x 0).val < 16 := (x 0).isLt
    exact ⟨by omega, by rw [e1, e0]⟩
  · rintro ⟨h, e⟩
    exact ⟨laneOf ⟨_, h⟩, by rw [rows₀_toNat]; rfl, by rw [hc]; exact e⟩

/-- Places on the rows 16 to 31 at columns that `lab` gives. -/
theorem named_rows₁ {cols : IVec S16 32} {lab : Nat → Nat} (hc : ∀ x : S16.Idx, (cols x).toNat = lab (16 + (x 0).val)) (j : S32x1000.Idx) :
    Named rows₁ cols j ↔ 16 ≤ (j 0).val ∧ (j 1).val = lab (j 0).val := by
  have hj : (j 0).val < 32 := (j 0).isLt
  constructor
  · rintro ⟨x, e0, e1⟩
    rw [rows₁_toNat] at e0; rw [hc] at e1
    exact ⟨by omega, by rw [e1, e0]⟩
  · rintro ⟨h, e⟩
    refine ⟨laneOf ⟨(j 0).val - 16, by omega⟩, ?_, ?_⟩
    · rw [rows₁_toNat]; show _ = 16 + ((j 0).val - 16); omega
    · rw [hc]; show _ = lab (16 + ((j 0).val - 16)); rw [show 16 + ((j 0).val - 16) = (j 0).val by omega]; exact e

/-! ## Blocks -/

/-- A block of 32 rows holding only zeros. -/
def zeroBlk : Vec F S32x1000 .f32 := fun _ => zeroW

/-- A block of 32 rows holding a one in each row at the column `lab` gives, zeros elsewhere. -/
def hotBlk (lab : Nat → Nat) : Vec F S32x1000 .f32 := fun j => if (j 1).val = lab (j 0).val then oneW else zeroW

/-- Ones set at the columns of the rows 0 to 15, then of the rows 16 to 31, make the block of ones. -/
theorem set_set {c₀ c₁ : IVec S16 32} {lab : Nat → Nat} (h₀ : ∀ x : S16.Idx, (c₀ x).toNat = lab (x 0).val)
    (h₁ : ∀ x : S16.Idx, (c₁ x).toNat = lab (16 + (x 0).val)) (g : ∀ a x, ((![rows₀, c₀] : Fin 2 → IVec S16 32) a x).toNat < S32x1000.size a)
    (g' : ∀ a x, ((![rows₁, c₁] : Fin 2 → IVec S16 32) a x).toNat < S32x1000.size a) :
    storeIdx (F := F) (s := S32x1000) (e := .f32)
      (storeIdx (F := F) (s := S32x1000) (e := .f32) zeroBlk ![rows₀, c₀] (broadcast S16 oneW) (fun _ => 1#1) false g)
      ![rows₁, c₁] (broadcast S16 oneW) (fun _ => 1#1) false g' = hotBlk lab := by
  funext j
  rw [storeIdx_word, storeIdx_word]
  simp only [named_rows₀ h₀, named_rows₁ h₁, hotBlk, zeroBlk]
  by_cases e : (j 1).val = lab (j 0).val <;> simp only [e, and_true, and_false, if_true, if_false]
  by_cases h : 16 ≤ (j 0).val
  · rw [if_pos h]
  · rw [if_neg h, if_pos (by omega)]

/-- Zeros set at the same places of the block of ones make the block of zeros. -/
theorem clear_clear {c₀ c₁ : IVec S16 32} {lab : Nat → Nat} (h₀ : ∀ x : S16.Idx, (c₀ x).toNat = lab (x 0).val)
    (h₁ : ∀ x : S16.Idx, (c₁ x).toNat = lab (16 + (x 0).val)) (g : ∀ a x, ((![rows₀, c₀] : Fin 2 → IVec S16 32) a x).toNat < S32x1000.size a)
    (g' : ∀ a x, ((![rows₁, c₁] : Fin 2 → IVec S16 32) a x).toNat < S32x1000.size a) :
    storeIdx (F := F) (s := S32x1000) (e := .f32)
      (storeIdx (F := F) (s := S32x1000) (e := .f32) (hotBlk lab) ![rows₀, c₀] (broadcast S16 zeroW) (fun _ => 1#1) false g)
      ![rows₁, c₁] (broadcast S16 zeroW) (fun _ => 1#1) false g' = zeroBlk := by
  funext j
  rw [storeIdx_word, storeIdx_word]
  simp only [named_rows₀ h₀, named_rows₁ h₁, hotBlk, zeroBlk]
  by_cases e : (j 1).val = lab (j 0).val <;> simp only [e, and_true, and_false, if_true, if_false]
  by_cases h : 16 ≤ (j 0).val
  · rw [if_pos h]
  · rw [if_neg h, if_pos (by omega)]

/-! ## The array the kernel writes -/

/-- The label of row `r`, as a number. -/
def labelAt (labs : S8192.Idx → BitVec 32) (r : Nat) : Nat :=
  if h : r < 8192 then (labs fun a => match a with | ⟨0, _⟩ => ⟨r, h⟩).toNat else 0

/-- The result: below row 8192 a one at the row's label and zeros elsewhere, from row 8192 on the given rows. -/
def result (probs : S16384x1000.Idx → F .f32) (labs : S8192.Idx → BitVec 32) : S16384x1000.Idx → F .f32 := fun j =>
  if (j 0).val < 8192 then (if (j 1).val = labelAt labs (j 0).val then oneW else zeroW) else probs j

end Cert.Proof
-- ==== Proof.Setup.lean ====
/-
  The launch as the launch theorem sees it: the program and its facts, the resource algebra, the blocks of rows the tiles
  work on, and what of the memory each tile is handed.
-/
module

public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Pipeline.Kit
public import Idealize.ShloMosaic.Lib.Tactic

@[expose] public section

set_option synthInstance.maxSize 4096

noncomputable section

namespace Cert.Proof

open Cert.KernelIdeal Cert.KernelIdeal.Gen
open Idealize.ShloMosaic
open Idealize.ShloMosaic.SparseCore (V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and no task's, no buffer of a SparseCore is shared by its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resources: the handshakes' rounds and the transfers' counters -/

abbrev UH : Type := URounds (GSem nD τ sig) ℕ
abbrev UU : Type := UH × Counters

local notation "𝕄" => MT nD τ sig (HIx 1) (Elt F) ℕ UU ℕ

abbrev EH : Emb UH 𝕄 := embL

/-! ## The three arrays and their blocks -/

abbrev probsLoc (d : Dev nD) : Loc nD τ sig := (SparseCore.T d).loc main_arg0
abbrev labelsLoc (d : Dev nD) : Loc nD τ sig := (SparseCore.T d).loc main_arg1
abbrev outLoc (d : Dev nD) : Loc nD τ sig := (SparseCore.T d).loc main_v0

/-- Rows `32 n` to `32 n + 31` of an array of 16384. -/
def blk (n : ℕ) : Finset S16384x1000.Idx := Finset.univ.filter fun j => (j 0).val / 32 = n

/-- Labels `256 n` to `256 n + 255`. -/
def part (n : ℕ) : Finset S8192.Idx := Finset.univ.filter fun j => (j 0).val / 256 = n

theorem mem_blk {n : ℕ} {j : S16384x1000.Idx} : j ∈ blk n ↔ (j 0).val / 32 = n := by simp [blk]
theorem mem_part {n : ℕ} {j : S8192.Idx} : j ∈ part n ↔ (j 0).val / 256 = n := by simp [part]

/-- The block that tile `s` of SparseCore `c` writes `k`-th in half `h` of the array: eight labelled, eight given. -/
def blkNo (c s h k : ℕ) : ℕ := 256 * h + 8 * (16 * c + s) + k

/-- The blocks of the two SparseCores' tiles are all of the array, once. -/
theorem blk_disjoint : ∀ x ∈ (Finset.univ : Finset (Fin 2 × Fin 16 × Fin 2 × Fin 8)), ∀ y ∈ (Finset.univ : Finset (Fin 2 × Fin 16 × Fin 2 × Fin 8)), x ≠ y →
    Disjoint (blk (blkNo x.1 x.2.1 x.2.2.1 x.2.2.2)) (blk (blkNo y.1 y.2.1 y.2.2.1 y.2.2.2)) := by
  rintro ⟨c, s, h, k⟩ - ⟨c', s', h', k'⟩ - ne
  refine Finset.disjoint_left.mpr fun j hj hj' => ne ?_
  rw [mem_blk] at hj hj'
  unfold blkNo at hj hj'
  simp only at hj hj'
  have := c.isLt; have := s.isLt; have := h.isLt; have := k.isLt
  have := c'.isLt; have := s'.isLt; have := h'.isLt; have := k'.isLt
  have hc : c = c' := Fin.ext (by omega)
  have hs : s = s' := Fin.ext (by omega)
  have hh : h = h' := Fin.ext (by omega)
  have hk : k = k' := Fin.ext (by omega)
  rw [hc, hs, hh, hk]

@[inherit_doc blk_disjoint]
theorem blk_cover : (Finset.univ.biUnion fun x : Fin 2 × Fin 16 × Fin 2 × Fin 8 => blk (blkNo x.1 x.2.1 x.2.2.1 x.2.2.2)) = Finset.univ := by
  ext j
  simp only [Finset.mem_biUnion, Finset.mem_univ, true_and, iff_true, mem_blk]
  have hj : (j 0).val < 16384 := (j 0).isLt
  refine ⟨⟨⟨(j 0).val / 32 % 256 / 128, by omega⟩, ⟨(j 0).val / 32 % 128 / 8, by omega⟩, ⟨(j 0).val / 32 / 256, by omega⟩, ⟨(j 0).val / 32 % 8, by omega⟩⟩, ?_⟩
  unfold blkNo
  simp only
  omega

/-- So are the tiles' parts of the labels. -/
theorem part_disjoint : ∀ x ∈ (Finset.univ : Finset (Fin 2 × Fin 16)), ∀ y ∈ (Finset.univ : Finset (Fin 2 × Fin 16)), x ≠ y →
    Disjoint (part (16 * x.1 + x.2)) (part (16 * y.1 + y.2)) := by
  rintro ⟨c, s⟩ - ⟨c', s'⟩ - ne
  refine Finset.disjoint_left.mpr fun j hj hj' => ne ?_
  rw [mem_part] at hj hj'
  simp only at hj hj'
  have := s.isLt; have := s'.isLt
  have hc : c = c' := Fin.ext (by omega)
  have hs : s = s' := Fin.ext (by omega)
  rw [hc, hs]

@[inherit_doc part_disjoint]
theorem part_cover : (Finset.univ.biUnion fun x : Fin 2 × Fin 16 => part (16 * x.1 + x.2)) = Finset.univ := by
  ext j
  simp only [Finset.mem_biUnion, Finset.mem_univ, true_and, iff_true, mem_part]
  have hj : (j 0).val < 8192 := (j 0).isLt
  refine ⟨⟨⟨(j 0).val / 256 / 16, by omega⟩, ⟨(j 0).val / 256 % 16, by omega⟩⟩, ?_⟩
  simp only
  omega

/-! ## What each tile holds -/

variable (m : (ℓ : Loc nD τ sig) → Buf (Elt F) ℓ) (d : Dev nD)

/-- A block of `probs` at the launch's contents. -/
abbrev probsBlk (n : ℕ) : sProp 𝕄 := probsLoc d ↦[blk n]{fullShare} m (probsLoc d)
/-- A block of the result at `f`. -/
abbrev outBlk (f : Buf (Elt F) (outLoc d)) (n : ℕ) : sProp 𝕄 := outLoc d ↦[blk n]{fullShare} f
/-- A part of the labels at the launch's contents. -/
abbrev labelsPart (n : ℕ) : sProp 𝕄 := labelsLoc d ↦[part n]{fullShare} m (labelsLoc d)

/-- A tile's part of the labels, its sixteen blocks of `probs`, and its sixteen blocks of the result, at `f`. -/
def held (f : Buf (Elt F) (outLoc d)) (c s : ℕ) : sProp 𝕄 :=
  iprop(labelsPart m d (16 * c + s)
    ∗ (bigSep Finset.univ fun h : Fin 2 => bigSep Finset.univ fun k : Fin 8 => probsBlk m d (blkNo c s h k))
    ∗ bigSep Finset.univ fun h : Fin 2 => bigSep Finset.univ fun k : Fin 8 => outBlk d f (blkNo c s h k))

instance held_storable (f : Buf (Elt F) (outLoc d)) (c s : ℕ) : BI.Storable (upEmb : UEmb _ 𝕄) (held m d f c s) := by
  unfold held; infer_instance

/-- A location whole is its pieces, where they are disjoint and cover it. -/
theorem deal {ℓ : Loc nD τ sig} (f : Buf (Elt F) ℓ) {α : Type} [Fintype α] (A : α → Finset (Idx ℓ))
    (hd : ∀ x ∈ (Finset.univ : Finset α), ∀ y ∈ (Finset.univ : Finset α), x ≠ y → Disjoint (A x) (A y)) (hc : Finset.univ.biUnion A = Finset.univ) :
    (ℓ ↦{fullShare} f : sProp 𝕄) = bigSep Finset.univ fun x => ℓ ↦[A x]{fullShare} f := by
  rw [← pointsTo_biUnion Finset.univ A hd, hc]

/-- `probs` whole is its blocks, -/
theorem probs_blks : (probsLoc d ↦{fullShare} m (probsLoc d) : sProp 𝕄)
    = bigSep Finset.univ fun c : Fin 2 => bigSep Finset.univ fun s : Fin 16 => bigSep Finset.univ fun h : Fin 2 => bigSep Finset.univ fun k : Fin 8 =>
        probsBlk m d (blkNo c s h k) :=
  (deal (m (probsLoc d)) _ blk_disjoint blk_cover).trans (by simp only [bigSep_univ_prod])

/-- so is the result, -/
theorem out_blks (f : Buf (Elt F) (outLoc d)) : (outLoc d ↦{fullShare} f : sProp 𝕄)
    = bigSep Finset.univ fun c : Fin 2 => bigSep Finset.univ fun s : Fin 16 => bigSep Finset.univ fun h : Fin 2 => bigSep Finset.univ fun k : Fin 8 =>
        outBlk d f (blkNo c s h k) :=
  (deal f _ blk_disjoint blk_cover).trans (by simp only [bigSep_univ_prod])

/-- and the labels are their parts. -/
theorem labels_parts : (labelsLoc d ↦{fullShare} m (labelsLoc d) : sProp 𝕄)
    = bigSep Finset.univ fun c : Fin 2 => bigSep Finset.univ fun s : Fin 16 => labelsPart m d (16 * c + s) :=
  (deal (m (labelsLoc d)) _ part_disjoint part_cover).trans (by simp only [bigSep_univ_prod])

/-- All the tiles' holdings are the three arrays, whole. -/
theorem held_all (f : Buf (Elt F) (outLoc d)) :
    (bigSep Finset.univ fun c : Fin 2 => bigSep Finset.univ fun s : Fin 16 => held m d f c s)
      = iprop((labelsLoc d ↦{fullShare} m (labelsLoc d)) ∗ (probsLoc d ↦{fullShare} m (probsLoc d)) ∗ outLoc d ↦{fullShare} f : sProp 𝕄) := by
  rw [labels_parts, probs_blks, out_blks]
  unfold held
  simp only [bigSep_sep']

/-! ## A tile's own semaphores and scratches -/

/-- The semaphores of a tile's copies. -/
def sems : List (DmaSem sig) :=
  [cc0_scoped0.sem, cc0_scoped1.sem, cc0_scoped2.sem, cc0_scoped3.sem, cc0_scoped4.sem, cc0_scoped5.sem, cc0_scoped6.sem, cc0_scoped7.sem, cc0_scoped8.sem,
    cc0_scratch4.sem, cc0_scratch5.sem, cc0_scratch6.sem, cc0_scratch7.sem]

theorem sems_nodup : sems.Nodup := by decide
theorem sems_scoped : ∀ s ∈ sems, (SemLoc.dma s : SemLoc sig).isScoped .scVector = true := by decide

/-- A tile's scratches. -/
def scratches : List (Ref sig .scVector) := [cc0_scratch0, cc0_scratch1, cc0_scratch2, cc0_scratch3]
theorem scratches_nodup : scratches.Nodup := by decide

/-- A set at least a list holds is the list's members and the others. -/
theorem bigSep_listed {I J : Type} [DecidableEq I] (f : J → I) (hf : Function.Injective f) (l : List J) (hl : l.Nodup) (A : Finset I) (h : ∀ x ∈ l, f x ∈ A)
    (Φ : I → sProp 𝕄) : bigSep A Φ = iprop(bigSepL (l.map f) Φ ∗ bigSep (A \ (l.map f).toFinset) Φ) := by
  rw [bigSep_sdiff_split (s := A) (t := (l.map f).toFinset) (fun x hx => by
    obtain ⟨y, hy, rfl⟩ := List.mem_map.mp (List.mem_toFinset.mp hx); exact h y hy), bigSep_eq_bigSepL _ (hl.map hf)]; rfl

variable (c : Fin τ.nSC) (s : Fin τ.nSub)

/-- The semaphores other than the copies'. -/
def otherSems : sProp 𝕄 := bigSep (ownCells (V d c s) \ (sems.map fun x => ((V d c s, .dma x) : GSem nD τ sig)).toFinset) fun g => semVal g 0
/-- The buffers other than the scratches. -/
def otherBufs : sProp 𝕄 :=
  bigSep (ownRefs (τ := τ) (.scVector c s) \ (scratches.map (Proc.scVector c s).devRef).toFinset) fun b => iprop(∃ f, ((d, b) : Loc nD τ sig) ↦{fullShare} f)

/-- A tile's semaphore at zero. -/
abbrev sem0 (x : DmaSem sig) : sProp 𝕄 := semVal ((V d c s, .dma x) : GSem nD τ sig) 0
/-- A tile's scratch at `f`. -/
abbrev scr (b : Ref sig .scVector) (f : Buf (Elt F) ((V d c s).loc b)) : sProp 𝕄 := (V d c s).loc b ↦{fullShare} f

theorem ownSems0_eq : (ownSems0 (V d c s) : sProp 𝕄)
    = iprop((sem0 d c s cc0_scoped0.sem ∗ sem0 d c s cc0_scoped1.sem ∗ sem0 d c s cc0_scoped2.sem ∗ sem0 d c s cc0_scoped3.sem ∗ sem0 d c s cc0_scoped4.sem
        ∗ sem0 d c s cc0_scoped5.sem ∗ sem0 d c s cc0_scoped6.sem ∗ sem0 d c s cc0_scoped7.sem ∗ sem0 d c s cc0_scoped8.sem
        ∗ sem0 d c s cc0_scratch4.sem ∗ sem0 d c s cc0_scratch5.sem ∗ sem0 d c s cc0_scratch6.sem ∗ sem0 d c s cc0_scratch7.sem) ∗ otherSems d c s) :=
  bigSep_listed (fun x => ((V d c s, .dma x) : GSem nD τ sig)) (fun x y e => by simpa using e) sems sems_nodup _
    (fun x hx => mem_ownCells.mpr ⟨rfl, sems_scoped x hx⟩) _

theorem ownBufs_eq : (ownBufs (V d c s) : sProp 𝕄)
    = iprop(((∃ f, scr d c s cc0_scratch0 f) ∗ (∃ f, scr d c s cc0_scratch1 f) ∗ (∃ f, scr d c s cc0_scratch2 f) ∗ (∃ f, scr d c s cc0_scratch3 f))
        ∗ otherBufs d c s) :=
  bigSep_listed (Proc.scVector c s).devRef (Proc.devRef_injective _) scratches scratches_nodup _
    (fun x hx => SparseCore.Cfg.mem_ownRefs_of_owner (p := Proc.scVector c s) (by
      simp only [scratches, List.mem_cons, List.not_mem_nil, or_false] at hx
      rcases hx with rfl | rfl | rfl | rfl <;> rfl)) _

end Cert.Proof

end
-- ==== Proof.Copies.lean ====
/-
  The copies between the arrays and a tile's blocks: each of the four moves — start fetching 32 rows, wait for them, start
  writing 32 rows out, wait for that — with the values it carries.
-/
module

public import proofs.«01_k».proof.Proof.Setup

@[expose] public section

set_option synthInstance.maxSize 4096

noncomputable section

namespace Cert.Proof

open Cert.KernelIdeal Cert.KernelIdeal.Gen
open Idealize.ShloMosaic Idealize.ShloMosaic.Transfers
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (d : Dev nD) {c : Fin τ.nSC} {s : Fin τ.nSub}

/-- What it takes for a tile's program to end in `Q`. -/
abbrev run {α : Type} (p : Tile F c s α) (Q : α → sProp 𝕄) : sProp 𝕄 :=
  wp frame (wpE (defs₀ (F := F)) 𝒱₀ (V d c s) none) Set.univ p Q

/-- `g` is rows `32 n` to `32 n + 31` of `f`. -/
def Rows (f : S16384x1000.Idx → F .f32) (n : ℕ) (g : Vec F S32x1000 .f32) : Prop :=
  ∀ i j, (i 0).val = 32 * n + (j 0).val → (i 1).val = (j 1).val → g j = f i

variable (c s) in
/-- A tile's block `b` holds `g`. -/
def block (b : Memref sig .scVector .vmem S32x1000 .f32) (g : Vec F S32x1000 .f32) : sProp 𝕄 :=
  iprop(∃ f, ⌜b.view.read (Elt F) f = g⌝ ∗ (b.view.loc (V d c s) ↦{fullShare} f))

variable (c s) in
/-- What a tile owes, and the waits it has made since it was handed its task with `W` made. -/
def waits (O : CellTallies nD τ sig (HIx 1)) (W : Waits sig (HIx 1)) : sProp 𝕄 :=
  iprop(MayWaits (V d c s) none O ∗ ∃ W', ⌜∀ p ∈ W', p ∈ W ∨ p.2 = none⌝ ∗ owes (V d c s) O W')

/-- The units a copy into 32 rows of the result counts. -/
abbrev outCredit : ℕ := sig.dmaCredit .scVector (Kind.scVector.table .hbm) (main_v0_scv : Ref sig .scVector).idx S32x1000 .f32

variable (c s) in
/-- Rows `32 n` on of `probs` are on their way into the block `b`. -/
def fetching (b : Memref sig .scVector .vmem S32x1000 .f32) (n : ℕ) (sem : DmaSem sig) : sProp 𝕄 :=
  Flight countersEmb (V d c s) (.dma sem) none b.view.dmaCredit iprop((∃ g, ⌜Rows (m (probsLoc d)) n g⌝ ∗ block d c s b g) ∗ probsBlk m d n)

variable (c s) in
/-- The block `b`, at `g`, is on its way to rows `32 n` on of the result, which will there be `f`. -/
def putting (b : Memref sig .scVector .vmem S32x1000 .f32) (g : Vec F S32x1000 .f32) (f : Buf (Elt F) (outLoc d)) (n : ℕ) (sem : DmaSem sig) : sProp 𝕄 :=
  Flight countersEmb (V d c s) (.dma sem) none outCredit iprop(outBlk d f n ∗ block d c s b g)

section Slices

variable (o : Fin 2 → Nat) (ho : ∀ x, o x + S32x1000.size x ≤ S16384x1000.size x) {n : ℕ} (hn : o = ![32 * n, 0])

/-- Where element `j` of 32 rows of an array is in the array. -/
theorem rect_emb (j : S32x1000.Idx) (a : Fin 2) : (((Rect.unit (s := S16384x1000) o S32x1000.size ho).emb j) a).val = o a + (j a).val := by
  show o a + 1 * (j a).val = _
  rw [Nat.one_mul]

include hn in
theorem rect_set : (Rect.unit (s := S16384x1000) o S32x1000.size ho).set = blk n := by
  ext i
  rw [Rect.mem_set_unit, mem_blk]
  subst hn
  have h0 : S32x1000.size 0 = 32 := rfl
  have h1 : S32x1000.size 1 = 1000 := rfl
  have hi : (i 1).val < 1000 := (i 1).isLt
  constructor
  · intro h
    have := h 0
    simp only [h0, Matrix.cons_val_zero] at this
    omega
  · intro h a
    match a with
    | 0 =>
      show 32 * n ≤ (i 0).val ∧ (i 0).val < 32 * n + 32
      omega
    | 1 =>
      show 0 ≤ (i 1).val ∧ (i 1).val < 0 + 1000
      omega

include hn in
theorem probs_set : (rowsOf probsM o ho).view.set = blk n := (View.set_slice_whole _ _).trans (rect_set o ho hn)
include hn in
theorem out_set : (rowsOf outM o ho).view.set = blk n := (View.set_slice_whole _ _).trans (rect_set o ho hn)

include hn in
/-- What is read of 32 rows of an array is those rows. -/
theorem rows_read (f : Buf (Elt F) (probsLoc d)) : Rows f n ((rowsOf probsM o ho).view.read (Elt F) f) := by
  subst hn
  intro i j h0 h1
  refine (View.read_apply _ _).trans ((cast_eq _ _).trans (congrArg f (funext fun a => Fin.ext ?_)))
  refine (rect_emb _ ho j a).trans ?_
  match a with
  | 0 => exact h0.symm
  | 1 => show 0 + (j 1).val = (i 1).val; omega

include hn in
/-- What 32 rows written over are: the rows written. -/
theorem rows_written (f fd : Buf (Elt F) (outLoc d)) (g : Vec F S32x1000 .f32) (h : Rows f n g) :
    ∀ i ∈ blk n, (rowsOf outM o ho).view.write (Elt F) fd g Finset.univ i = f i := by
  intro i hi
  rw [← out_set o ho hn] at hi
  obtain ⟨j, -, rfl⟩ := Finset.mem_map.mp hi
  subst hn
  refine (View.write_emb_of_mem (v := (rowsOf outM _ ho).view) _ _ (Finset.mem_univ j)).trans ((cast_eq _ _).trans ?_)
  refine h _ j (rect_emb _ ho j 0) ((rect_emb _ ho j 1).trans ?_)
  show 0 + (j 1).val = _
  omega

end Slices

section Moves

variable (b : Memref sig .scVector .vmem S32x1000 .f32) (hb : b.IsWhole)
variable (o : Fin 2 → Nat) (ho : ∀ x, o x + S32x1000.size x ≤ S16384x1000.size x) {n : ℕ} (hn : o = ![32 * n, 0]) (sem : DmaSem sig)
variable {g : Vec F S32x1000 .f32} {O : CellTallies nD τ sig (HIx 1)} {W : Waits sig (HIx 1)}

include hn in
/-- From a block at anything and the rows of `probs`, the rows are on their way. -/
theorem fetchStart_run {Q : PUnit → sProp 𝕄} : iprop(block d c s b g ∗ probsBlk m d n ∗ sem0 d c s sem)
    ⊢ iprop((fetching m d c s b n sem -∗ Q ⟨⟩) -∗ run d (fetchStart b hb o ho sem : Tile F c s PUnit) Q) := by
  unfold fetchStart block
  iintro ⟨⟨%f, -, Hb⟩, Hp, Hs⟩ Hk
  simp only [Prog.lift]
  iapply (wp_dmaLocal countersEmb 𝒱₀ (V d c s) none (src := rowsOf probsM o ho) (via := .same) (dst := b) (sm := .dma sem) (q := fullShare)
      (fs := m (probsLoc d)) (Sd := Finset.univ) (fd := f) none b.view.dmaCredit rfl (View.dmaCredit_pos _ (by decide)) (Finset.subset_univ _)) $$ [Hb Hp Hs]
  · isplitl [Hp]
    · rw [probs_set o ho hn]; iexact Hp
    isplitl [Hb] <;> iassumption
  iintro Hf
  rw [wp_ret]
  imodintro
  iapply Hk
  unfold fetching
  iapply (Flight_mono countersEmb (V d c s) ?_) $$ Hf
  rw [probs_set o ho hn]
  iintro ⟨Hb, Hp⟩
  isplitl [Hb]
  · iexists (rowsOf probsM o ho).view.read (Elt F) (m (probsLoc d))
    isplitr
    · ipureintro; exact rows_read d o ho hn _
    unfold block
    iexists _
    isplitr
    swap
    · iexact Hb
    · ipureintro; exact View.read_write_univ _ _
  · iexact Hp

/-- A wait for them gives the block at those rows, and the rows back. -/
theorem fetchWait_run {Q : PUnit → sProp 𝕄} : iprop(fetching m d c s b n sem ∗ waits d c s O W)
    ⊢ iprop((iprop((∃ g, ⌜Rows (m (probsLoc d)) n g⌝ ∗ block d c s b g) ∗ probsBlk m d n ∗ sem0 d c s sem ∗ waits d c s O W) -∗ Q ⟨⟩)
        -∗ run d (fetchWait b hb o ho sem : Tile F c s PUnit) Q) := by
  unfold fetchWait fetching waits
  iintro ⟨Hf, #Hmw, %W', %hW, Ho⟩ Hk
  simp only [Prog.lift]
  iapply (wp_waitLocalO countersEmb 𝒱₀ (V d c s) none none rfl) $$ [Hf Ho]
  · isplitl [Hf]; · iexact Hf
    isplitl [Ho]; · iexact Ho
    iapply (MayWaits.elim (.dma sem)) $$ Hmw
  iintro ⟨⟨Hb, Hp⟩, Hs, Ho⟩
  rw [wp_ret]
  imodintro
  iapply Hk
  isplitl [Hb]; · iexact Hb
  isplitl [Hp]; · iexact Hp
  isplitl [Hs]; · iexact Hs
  isplitr; · iexact Hmw
  iexists _
  isplitr
  swap
  · iexact Ho
  · ipureintro
    intro p hp
    rcases Finset.mem_insert.mp hp with rfl | hp
    · exact .inr rfl
    · exact hW p hp

include hn in
/-- From a block at rows of `f` and the result's rows at anything, the block is on its way. -/
theorem putStart_run {Q : PUnit → sProp 𝕄} {f fd : Buf (Elt F) (outLoc d)} (hg : Rows f n g) : iprop(block d c s b g ∗ outBlk d fd n ∗ sem0 d c s sem)
    ⊢ iprop((putting d c s b g f n sem -∗ Q ⟨⟩) -∗ run d (putStart b hb o ho sem : Tile F c s PUnit) Q) := by
  unfold putStart
  rw [show block d c s b g = iprop(∃ f, ⌜b.view.read (Elt F) f = g⌝ ∗ (b.view.loc (V d c s) ↦{fullShare} f)) from rfl]
  iintro ⟨⟨%fb, %hfb, Hb⟩, Hp, Hs⟩ Hk
  simp only [Prog.lift]
  iapply (wp_dmaLocal countersEmb 𝒱₀ (V d c s) none (src := b) (via := .same) (dst := rowsOf outM o ho) (sm := .dma sem) (q := fullShare)
      (fs := fb) (Sd := blk n) (fd := fd) none outCredit rfl (sig.dmaCredit_pos _ _ _ _ _ (by decide)) (out_set o ho hn).subset) $$ [Hb Hp Hs]
  · isplitl [Hb]
    · rw [hb.set_eq_univ]; iexact Hb
    isplitl [Hp] <;> iassumption
  iintro Hf
  rw [wp_ret]
  imodintro
  iapply Hk
  unfold putting
  iapply (Flight_mono countersEmb (V d c s) ?_) $$ Hf
  rw [hb.set_eq_univ]
  iintro ⟨Hp, Hb⟩
  isplitl [Hp]
  · iapply (show ((rowsOf outM o ho).view.loc (V d c s) ↦[blk n]{fullShare} (rowsOf outM o ho).view.write (Elt F) fd (b.view.read (Elt F) fb) Finset.univ : sProp 𝕄)
      ⊢ outBlk d f n from Entails.of_eq (pointsTo_congr (rows_written d o ho hn f fd _ (hfb ▸ hg)))) $$ Hp
  · unfold block
    iexists _
    isplitr
    swap
    · iexact Hb
    · ipureintro; exact hfb

/-- A wait for it gives the result's rows at `f`, and the block back. -/
theorem putWait_run {Q : PUnit → sProp 𝕄} {f : Buf (Elt F) (outLoc d)} : iprop(putting d c s b g f n sem ∗ waits d c s O W)
    ⊢ iprop((iprop(outBlk d f n ∗ block d c s b g ∗ sem0 d c s sem ∗ waits d c s O W) -∗ Q ⟨⟩)
        -∗ run d (putWait b hb o ho sem : Tile F c s PUnit) Q) := by
  unfold putWait putting waits
  iintro ⟨Hf, #Hmw, %W', %hW, Ho⟩ Hk
  simp only [Prog.lift]
  iapply (wp_waitLocalO countersEmb 𝒱₀ (V d c s) none none rfl) $$ [Hf Ho]
  · isplitl [Hf]; · iexact Hf
    isplitl [Ho]; · iexact Ho
    iapply (MayWaits.elim (.dma sem)) $$ Hmw
  iintro ⟨⟨Hp, Hb⟩, Hs, Ho⟩
  rw [wp_ret]
  imodintro
  iapply Hk
  isplitl [Hp]; · iexact Hp
  isplitl [Hb]; · iexact Hb
  isplitl [Hs]; · iexact Hs
  isplitr; · iexact Hmw
  iexists _
  isplitr
  swap
  · iexact Ho
  · ipureintro
    intro p hp
    rcases Finset.mem_insert.mp hp with rfl | hp
    · exact .inr rfl
    · exact hW p hp

end Moves

end Cert.Proof

end
-- ==== Proof.Marks.lean ====
/-
  The moves inside a tile: fetching its labels, clearing the block the labels are written in, setting and clearing the
  ones that the labels name, and writing one block of labelled rows.
-/
module

public import proofs.«01_k».proof.Proof.Copies

@[expose] public section

set_option synthInstance.maxSize 4096

noncomputable section

namespace Cert.Proof

open Cert.KernelIdeal Cert.KernelIdeal.Gen
open Idealize.ShloMosaic Idealize.ShloMosaic.Transfers
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (d : Dev nD) {c : Fin τ.nSC} {s : Fin τ.nSub}

/-! ## Sixteen places -/

/-- That sixteen rows and columns are places of a block. -/
abbrev Inside (rows cols : IVec S16 32) : Prop := ∀ a x, ((![rows, cols] : Fin 2 → IVec S16 32) a x).toNat < S32x1000.size a

theorem inside_of {rows cols : IVec S16 32} (hr : ∀ x, (rows x).toNat < 32) (hc : ∀ x, (cols x).toNat < 1000) : Inside rows cols := by
  intro a x
  match a with
  | 0 => exact hr x
  | 1 => exact hc x

/-- The block after `v` is written at sixteen places of it. -/
abbrev marked (g : Vec F S32x1000 .f32) (rows cols : IVec S16 32) (v : FVec F S16 .f32) (h : Inside rows cols) : Vec F S32x1000 .f32 :=
  storeIdx (F := F) (s := S32x1000) (e := .f32) g ![rows, cols] v (fun _ => 1#1) false h

/-- Of the whole block, every element is accessed, -/
theorem hot_set : ((hot : Memref sig .scVector .vmem S32x1000 .f32).access (.whole S32x1000)).set = Finset.univ :=
  Memref.set_access_whole (cc0_scratch1 : Ref sig .scVector)

/-- and what is written of it is what it holds. -/
theorem hot_marked (g : Vec F S32x1000 .f32) (rows cols : IVec S16 32) (v : FVec F S16 .f32) (h : Inside rows cols) :
    ((hot : Memref sig .scVector .vmem S32x1000 .f32).access (.whole S32x1000)).write (Elt F) g
      (storeIdx (((hot : Memref sig .scVector .vmem S32x1000 .f32).access (.whole S32x1000)).read (Elt F) g) ![rows, cols] v (fun _ => 1#1) false h) Finset.univ
      = marked g rows cols v h :=
  (Memref.write_access_whole_univ (Elt F) (cc0_scratch1 : Ref sig .scVector) _ _).trans
    (congrArg (fun g => marked g rows cols v h) (Memref.read_access_whole (Elt F) (cc0_scratch1 : Ref sig .scVector) g))

/-- Writing at sixteen places inside the block writes there. -/
theorem put_run {Q : PUnit → sProp 𝕄} (v : FVec F S16 .f32) (p : Places) (h : Inside p.rows p.cols) (g : Vec F S32x1000 .f32) :
    (scr d c s cc0_scratch1 g : sProp 𝕄)
      ⊢ iprop((scr d c s cc0_scratch1 (marked g p.rows p.cols v h) -∗ Q ⟨⟩) -∗ run d (put v p : Tile F c s PUnit) Q) := by
  unfold put
  simp only [Prog.lift, Prog.bind_op, Prog.bind_ret]
  iintro Hb Hk
  unfold run
  rw [wp_assume_of 𝒱₀ (V d c s) none _ ((p.chk.iff p.cols p.rows).2 h)]
  rw [← bind_pure (SparseCore.vectorStoreIdx _ _ _ _ _ _ _)]
  iapply (SparseCore.wp_vectorStoreIdx 𝒱₀ (V d c s) none Set.univ (base := hot) (f := g)) $$ [Hb]
  · rw [hot_set]; iexact Hb
  rw [hot_set, hot_marked]
  iintro Hb
  simp only [Prog.pure_eq_ret]
  rw [wp_ret]
  imodintro
  iapply Hk $$ Hb

/-- After zeros are written at a list of places, they are zero and what was zero still is. -/
theorem putAll_run {Q : PUnit → sProp 𝕄} : ∀ (ps : List Places) (h : ∀ p ∈ ps, Inside p.rows p.cols) (A : S32x1000.Idx → Prop),
    (iprop(∃ g, ⌜∀ j, A j → g j = (zeroW : F .f32)⌝ ∗ scr d c s cc0_scratch1 g) : sProp 𝕄)
      ⊢ iprop((iprop(∃ g, ⌜∀ j, (A j ∨ ∃ p ∈ ps, Named p.rows p.cols j) → g j = (zeroW : F .f32)⌝ ∗ scr d c s cc0_scratch1 g) -∗ Q ⟨⟩)
          -∗ run d (putAll (broadcast S16 zeroW) ps : Tile F c s PUnit) Q)
  | [], _, A => by
    unfold putAll
    iintro ⟨%g, %hg, Hb⟩ Hk
    unfold run
    simp only [Prog.pure_eq_ret]
    rw [wp_ret]
    imodintro
    iapply Hk
    iexists g
    isplitr
    · ipureintro; rintro j (hj | ⟨p, hp, -⟩)
      · exact hg j hj
      · exact absurd hp List.not_mem_nil
    · iexact Hb
  | p :: ps, h, A => by
    unfold putAll
    unfold run
    rw [wp_bind]
    iintro ⟨%g, %hg, Hb⟩ Hk
    iapply (put_run d (broadcast S16 zeroW) p (h p List.mem_cons_self) g) $$ Hb
    iintro Hb
    iapply (putAll_run ps (fun q hq => h q (List.mem_cons_of_mem _ hq)) (fun j => A j ∨ Named p.rows p.cols j)) $$ [Hb]
    · iexists _
      isplitr
      swap
      · iexact Hb
      ipureintro
      intro j hj
      refine (storeIdx_word _ _ _ _ _ j).trans ?_
      by_cases e : Named p.rows p.cols j
      · exact if_pos e
      · rw [if_neg e]; exact hg j (hj.resolve_right e)
    iintro ⟨%g', %hg', Hb⟩
    iapply Hk
    iexists g'
    isplitr
    · ipureintro
      intro j hj
      refine hg' j ?_
      rcases hj with hj | ⟨q, hq, hj⟩
      · exact .inl (.inl hj)
      · rcases List.mem_cons.mp hq with rfl | hq
        · exact .inl (.inr hj)
        · exact .inr ⟨q, hq, hj⟩
    · iexact Hb

/-- The places cleared after the loop, listed: the columns 992 to 999, of the rows 0 to 15 and of the rows 16 to 31. -/
theorem tails_eq : (tails₀ ++ tails₁).map (fun p => (p.rows, p.cols))
    = (List.range 8).map (fun e => (rows₀, (broadcast S16 (BitVec.ofNat 32 (992 + e)) : IVec S16 32)))
      ++ (List.range 8).map (fun e => (rows₁, (broadcast S16 (BitVec.ofNat 32 (992 + e)) : IVec S16 32))) := rfl

theorem tail_col {e : ℕ} (he : e < 8) (x : S16.Idx) : ((broadcast S16 (BitVec.ofNat 32 (992 + e)) : IVec S16 32) x).toNat = 992 + e := by
  show (BitVec.ofNat 32 (992 + e)).toNat = _
  rw [BitVec.toNat_ofNat]; omega

/-- They are places of the block, -/
theorem tails_inside : ∀ p ∈ tails₀ ++ tails₁, Inside p.rows p.cols := by
  intro p hp
  have h : (p.rows, p.cols) ∈ (tails₀ ++ tails₁).map (fun p => (p.rows, p.cols)) := List.mem_map_of_mem hp
  rw [tails_eq, List.mem_append, List.mem_map, List.mem_map] at h
  rcases h with ⟨e, he, eq⟩ | ⟨e, he, eq⟩ <;> obtain ⟨e0, e1⟩ := Prod.mk.inj eq <;> have he := List.mem_range.mp he <;> rw [← e0, ← e1]
  · exact inside_of (fun x => by rw [rows₀_toNat]; have h : (x 0).val < 16 := (x 0).isLt; omega) (fun x => by rw [tail_col he]; omega)
  · exact inside_of (fun x => by rw [rows₁_toNat]; have h : (x 0).val < 16 := (x 0).isLt; omega) (fun x => by rw [tail_col he]; omega)

/-- and all those of its last eight columns. -/
theorem tails_cover (j : S32x1000.Idx) (h : 992 ≤ (j 1).val) : ∃ p ∈ tails₀ ++ tails₁, Named p.rows p.cols j := by
  have hj : (j 1).val < 1000 := (j 1).isLt
  have he : (j 1).val - 992 < 8 := by omega
  have hc : (j 1).val = 992 + ((j 1).val - 992) := by omega
  by_cases hr : (j 0).val < 16
  · have hm : (rows₀, (broadcast S16 (BitVec.ofNat 32 (992 + ((j 1).val - 992))) : IVec S16 32)) ∈ (tails₀ ++ tails₁).map (fun p => (p.rows, p.cols)) := by
      rw [tails_eq]; exact List.mem_append_left _ (List.mem_map.mpr ⟨_, List.mem_range.mpr he, rfl⟩)
    obtain ⟨p, hp, e⟩ := List.mem_map.mp hm
    obtain ⟨e0, e1⟩ := Prod.mk.inj e
    refine ⟨p, hp, ?_⟩
    rw [e0, e1]
    exact (named_rows₀ (lab := fun _ => 992 + ((j 1).val - 992)) (fun x => tail_col he x) j).2 ⟨hr, hc⟩
  · have hm : (rows₁, (broadcast S16 (BitVec.ofNat 32 (992 + ((j 1).val - 992))) : IVec S16 32)) ∈ (tails₀ ++ tails₁).map (fun p => (p.rows, p.cols)) := by
      rw [tails_eq]; exact List.mem_append_right _ (List.mem_map.mpr ⟨_, List.mem_range.mpr he, rfl⟩)
    obtain ⟨p, hp, e⟩ := List.mem_map.mp hm
    obtain ⟨e0, e1⟩ := Prod.mk.inj e
    refine ⟨p, hp, ?_⟩
    rw [e0, e1]
    exact (named_rows₁ (lab := fun _ => 992 + ((j 1).val - 992)) (fun x => tail_col he x) j).2 ⟨by omega, hc⟩

/-! ## Strips of sixteen columns -/

/-- An element of a block is in the strip at `o`. -/
def InStrip (o : Fin 2 → ℕ) (j : S32x1000.Idx) : Prop := (j 0).val = o 0 ∧ o 1 ≤ (j 1).val ∧ (j 1).val < o 1 + 16

/-- The block after a strip of it is overwritten by zeros. -/
theorem strip_written (o : Strip) (g : Vec F S32x1000 .f32) (j : S32x1000.Idx) (h : InStrip o.1 j ∨ g j = zeroW) :
    ((hot : Memref sig .scVector .vmem S32x1000 .f32).access (Rect.unit (s := S32x1000) o.1 S1x16.size o.2)).write (Elt F) g
      (shapeCast S1x16 (k0_pay3 (F := F)) shapeCasts_S16_S1x16) Finset.univ j = zeroW := by
  by_cases hj : j ∈ ((hot : Memref sig .scVector .vmem S32x1000 .f32).access (Rect.unit (s := S32x1000) o.1 S1x16.size o.2)).set
  · obtain ⟨x, -, rfl⟩ := Finset.mem_map.mp hj
    exact (View.write_emb_of_mem _ _ (Finset.mem_univ x)).trans (cast_eq _ _)
  · refine (View.write_of_not_mem _ _ _ hj).trans (h.resolve_left fun h => hj ?_)
    have e : ((hot : Memref sig .scVector .vmem S32x1000 .f32).access (Rect.unit (s := S32x1000) o.1 S1x16.size o.2)).set
        = (Rect.unit (s := S32x1000) o.1 S1x16.size o.2).set := View.set_slice_whole _ _
    rw [e, Rect.mem_set_unit]
    intro a
    obtain ⟨h0, h1, h2⟩ := h
    match a with
    | 0 => exact ⟨h0.ge, show (j 0).val < o.1 0 + 1 by omega⟩
    | 1 => exact ⟨h1, h2⟩

/-- After a list of strips is cleared, they are zero and what was zero still is. -/
theorem clearStrips_run {Q : Unit → sProp 𝕄} : ∀ (os : List Strip) (A : S32x1000.Idx → Prop),
    (iprop(∃ g, ⌜∀ j, A j → g j = (zeroW : F .f32)⌝ ∗ scr d c s cc0_scratch1 g) : sProp 𝕄)
      ⊢ iprop((iprop(∃ g, ⌜∀ j, (A j ∨ ∃ o ∈ os, InStrip o.1 j) → g j = (zeroW : F .f32)⌝ ∗ scr d c s cc0_scratch1 g) -∗ Q ⟨⟩)
          -∗ run d (clearStrips os : Tile F c s Unit) Q)
  | [], A => by
    unfold clearStrips
    iintro ⟨%g, %hg, Hb⟩ Hk
    unfold run
    simp only [Prog.pure_eq_ret]
    rw [wp_ret]
    imodintro
    iapply Hk
    iexists g
    isplitr
    · ipureintro; rintro j (hj | ⟨p, hp, -⟩)
      · exact hg j hj
      · exact absurd hp List.not_mem_nil
    · iexact Hb
  | o :: os, A => by
    unfold clearStrips
    simp only [Prog.lift, Prog.bind_op, Prog.bind_ret]
    iintro ⟨%g, %hg, Hb⟩ Hk
    unfold run
    iapply (wp_load 𝒱₀ (V d c s) none Set.univ (m := hot) (S := Finset.univ) (Finset.subset_univ _)) $$ Hb
    iintro Hb
    iapply (wp_store 𝒱₀ (V d c s) none Set.univ (m := hot) (r := Rect.unit (s := S32x1000) o.1 S1x16.size o.2) (Mk := Finset.univ) (S := Finset.univ)
      (Finset.subset_univ _)) $$ Hb
    iintro Hb
    iapply (clearStrips_run os (fun j => A j ∨ InStrip o.1 j)) $$ [Hb]
    · iexists _
      isplitr
      swap
      · iexact Hb
      ipureintro
      intro j hj
      exact strip_written o g j (hj.symm.imp_right (hg j))
    iintro ⟨%g', %hg', Hb⟩
    iapply Hk
    iexists g'
    isplitr
    · ipureintro
      intro j hj
      refine hg' j ?_
      rcases hj with hj | ⟨q, hq, hj⟩
      · exact .inl (.inl hj)
      · rcases List.mem_cons.mp hq with rfl | hq
        · exact .inl (.inr hj)
        · exact .inr ⟨q, hq, hj⟩
    · iexact Hb

/-- The strips of trip `t`, listed: 62 of them, side by side. -/
theorem strips_eq (t : Fin k0_t1_loop.trips) : (strips t).map (fun o => o.1) = (List.range 62).map fun e => ![t.val, 16 * e] := by
  unfold strips
  simp only [List.map_cons, List.map_nil, k0_off3_eq, k0_off4_eq, k0_off5_eq, k0_off6_eq, k0_off7_eq, k0_off8_eq, k0_off9_eq, k0_off10_eq, k0_off11_eq,
    k0_off12_eq, k0_off13_eq, k0_off14_eq, k0_off15_eq, k0_off16_eq, k0_off17_eq, k0_off18_eq, k0_off19_eq, k0_off20_eq, k0_off21_eq, k0_off22_eq,
    k0_off23_eq, k0_off24_eq, k0_off25_eq, k0_off26_eq, k0_off27_eq, k0_off28_eq, k0_off29_eq, k0_off30_eq, k0_off31_eq, k0_off32_eq, k0_off33_eq,
    k0_off34_eq, k0_off35_eq, k0_off36_eq, k0_off37_eq, k0_off38_eq, k0_off39_eq, k0_off40_eq, k0_off41_eq, k0_off42_eq, k0_off43_eq, k0_off44_eq,
    k0_off45_eq, k0_off46_eq, k0_off47_eq, k0_off48_eq, k0_off49_eq, k0_off50_eq, k0_off51_eq, k0_off52_eq, k0_off53_eq, k0_off54_eq, k0_off55_eq,
    k0_off56_eq, k0_off57_eq, k0_off58_eq, k0_off59_eq, k0_off60_eq, k0_off61_eq, k0_off62_eq, k0_off63_eq, k0_off64_eq]
  rfl

/-- They cover the columns of row `t` below 992. -/
theorem strips_cover (t : Fin k0_t1_loop.trips) (j : S32x1000.Idx) (h0 : (j 0).val = t.val) (h1 : (j 1).val < 992) : ∃ o ∈ strips t, InStrip o.1 j := by
  have hm : (![t.val, 16 * ((j 1).val / 16)] : Fin 2 → ℕ) ∈ (strips t).map (fun o => o.1) := by
    rw [strips_eq]; exact List.mem_map.mpr ⟨(j 1).val / 16, List.mem_range.mpr (by omega), rfl⟩
  obtain ⟨o, ho, e⟩ := List.mem_map.mp hm
  refine ⟨o, ho, ?_⟩
  unfold InStrip
  rw [e]
  refine ⟨h0, ?_, ?_⟩
  · show 16 * ((j 1).val / 16) ≤ _; omega
  · show _ < 16 * ((j 1).val / 16) + 16; omega

/-- The loop and the clearing after it make the block zero, whatever it held. -/
theorem clear_run {Q : PUnit → sProp 𝕄} (g : Vec F S32x1000 .f32) :
    (scr d c s cc0_scratch1 g : sProp 𝕄)
      ⊢ iprop((scr d c s cc0_scratch1 (zeroBlk : Vec F S32x1000 .f32) -∗ Q ⟨⟩)
          -∗ run d (do
              Scf.Loop.for k0_t1_loop k0_t1_ok ⟨⟩ fun t _ => clearStrips (strips t)
              putAll k0_pay3 (tails₀ ++ tails₁) : Tile F c s PUnit) Q) := by
  iintro Hb Hk
  unfold run
  iapply (Scf.wp_for_bind (wpE := wpE (defs₀ (F := F)) 𝒱₀ (V d c s) none) frame Set.univ _ _ _ _ _ _
    (fun t _ => iprop(∃ g : Vec F S32x1000 .f32, ⌜∀ j, ((j 0).val < t ∧ (j 1).val < 992) → g j = (zeroW : F .f32)⌝ ∗ scr d c s cc0_scratch1 g)) ?_) $$ [Hb]
  · intro t _
    iintro Hb
    iapply (clearStrips_run d (strips t) (fun j => (j 0).val < t.val ∧ (j 1).val < 992)) $$ Hb
    iintro ⟨%g', %hg', Hb⟩
    iexists g'
    isplitr
    · ipureintro
      intro j hj
      refine hg' j ?_
      by_cases e : (j 0).val < t.val
      · exact .inl ⟨e, hj.2⟩
      · exact .inr (strips_cover t j (by omega) hj.2)
    · iexact Hb
  · iexists g
    isplitr
    · ipureintro; intro j hj; omega
    · iexact Hb
  iintro %_ Hb
  iapply (putAll_run d (tails₀ ++ tails₁) tails_inside (fun j => (j 0).val < 32 ∧ (j 1).val < 992)) $$ [Hb]
  · iexact Hb
  iintro ⟨%g', %hg', Hb⟩
  iapply Hk
  rw [show g' = (zeroBlk : Vec F S32x1000 .f32) from funext fun j => hg' j (by
    by_cases e : (j 1).val < 992
    · exact .inl ⟨(j 0).isLt, e⟩
    · exact .inr (tails_cover j (by omega)))]
  iexact Hb

end Cert.Proof

end
-- ==== Proof.Labelled.lean ====
/-
  The labelled rows: fetching a tile's labels, setting and clearing the ones that sixteen of them name, and writing one
  block of 32 labelled rows.
-/
module

public import proofs.«01_k».proof.Proof.Marks

@[expose] public section

set_option synthInstance.maxSize 4096

noncomputable section

namespace Cert.Proof

open Cert.KernelIdeal Cert.KernelIdeal.Gen
open Idealize.ShloMosaic Idealize.ShloMosaic.Transfers
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (d : Dev nD) {c : Fin τ.nSC} {s : Fin τ.nSub}

/-! ## The labels -/

/-- `fl` is part `w` of the labels `labs`. -/
def Mine (labs : S8192.Idx → BitVec 32) (w : ℕ) (fl : S256.Idx → BitVec 32) : Prop :=
  ∀ (i : S8192.Idx) (x : S256.Idx), (i 0).val = 256 * w + (x 0).val → fl x = labs i

/-- A part's label is the label of its row. -/
theorem Mine.labelAt {labs : S8192.Idx → BitVec 32} {w : ℕ} {fl : S256.Idx → BitVec 32} (h : Mine labs w fl) (hw : w < 32) (x : S256.Idx) :
    (fl x).toNat = labelAt labs (256 * w + (x 0).val) := by
  have hx : (x 0).val < 256 := (x 0).isLt
  unfold Cert.Proof.labelAt
  rw [dif_pos (show 256 * w + (x 0).val < 8192 by omega)]
  exact congrArg BitVec.toNat (h _ x rfl)

/-- and is below 1000 where all labels are. -/
theorem Mine.lt {labs : S8192.Idx → BitVec 32} {w : ℕ} {fl : S256.Idx → BitVec 32} (h : Mine labs w fl) (hw : w < 32)
    (hl : ∀ i, (labs i).toNat < 1000) (x : S256.Idx) : (fl x).toNat < 1000 := by
  have hx : (x 0).val < 256 := (x 0).isLt
  have e := h (fun a => match a with | ⟨0, _⟩ => ⟨256 * w + (x 0).val, show _ < 8192 by omega⟩) x rfl
  rw [e]; exact hl _

section Fetch

variable (o : Fin 1 → Nat) (ho : ∀ x, o x + S256.size x ≤ S8192.size x) {w : ℕ} (hw : o = ![256 * w])

/-- The labels at `o`, as the array's slice. -/
abbrev labelsOf : Memref sig .scVector .hbm S256 .i32 := labelsM.slice (Rect.unit (s := S8192) o S256.size ho) (fun _ => rfl)

theorem labels_emb (x : S256.Idx) : (((Rect.unit (s := S8192) o S256.size ho).emb x) 0).val = o 0 + (x 0).val := by
  show o 0 + 1 * (x 0).val = _
  rw [Nat.one_mul]

include hw in
theorem labels_set : (labelsOf o ho).view.set = part w := by
  refine (View.set_slice_whole _ _).trans ?_
  ext i
  rw [Rect.mem_set_unit, mem_part]
  subst hw
  constructor
  · intro h
    have h' : 256 * w ≤ (i 0).val ∧ (i 0).val < 256 * w + 256 := h 0
    omega
  · intro h a
    obtain rfl : a = 0 := Subsingleton.elim (α := Fin 1) _ _
    show 256 * w ≤ (i 0).val ∧ (i 0).val < 256 * w + 256
    omega

include hw in
theorem labels_read (f : Buf (Elt F) (labelsLoc d)) : Mine f w ((labelsOf o ho).view.read (Elt F) f) := by
  subst hw
  intro i x h
  refine (View.read_apply _ _).trans ((cast_eq _ _).trans (congrArg f (funext fun a => Fin.ext ?_)))
  obtain rfl : a = 0 := Subsingleton.elim (α := Fin 1) _ _
  exact (labels_emb _ ho x).trans h.symm

include hw in
/-- Fetching the labels leaves them in the tile's scratch. -/
theorem fetchLabels_run {Q : PUnit → sProp 𝕄} {O : CellTallies nD τ sig (HIx 1)} {W : Waits sig (HIx 1)} (sem : DmaSem sig)
    (f : Buf (Elt F) ((V d c s).loc cc0_scratch0)) :
    iprop(scr d c s cc0_scratch0 f ∗ labelsPart m d w ∗ sem0 d c s sem ∗ waits d c s O W)
      ⊢ iprop((iprop((∃ fl : S256.Idx → BitVec 32, ⌜Mine (m (labelsLoc d)) w fl⌝ ∗ scr d c s cc0_scratch0 fl) ∗ labelsPart m d w ∗ sem0 d c s sem
            ∗ waits d c s O W) -∗ Q ⟨⟩)
          -∗ run d (fetchLabels o ho sem : Tile F c s PUnit) Q) := by
  unfold fetchLabels waits
  simp only [Prog.lift, Prog.bind_op, Prog.bind_ret]
  iintro ⟨Hb, Hp, Hs, #Hmw, %W', %hW, Ho⟩ Hk
  iapply (wp_dmaLocal countersEmb 𝒱₀ (V d c s) none (src := labelsOf o ho) (via := .same) (dst := myLabels) (sm := .dma sem) (q := fullShare)
      (fs := m (labelsLoc d)) (Sd := Finset.univ) (fd := f) none myLabels.view.dmaCredit rfl (View.dmaCredit_pos _ (by decide)) (Finset.subset_univ _)) $$ [Hb Hp Hs]
  · isplitl [Hp]
    · rw [labels_set o ho hw]; iexact Hp
    isplitl [Hb] <;> iassumption
  iintro Hf
  iapply (wp_waitLocalO countersEmb 𝒱₀ (V d c s) none none rfl) $$ [Hf Ho]
  · isplitl [Hf]; · iexact Hf
    isplitl [Ho]; · iexact Ho
    iapply (MayWaits.elim (.dma sem)) $$ Hmw
  rw [labels_set o ho hw]
  iintro ⟨⟨Hb, Hp⟩, Hs, Ho⟩
  rw [wp_ret]
  imodintro
  iapply Hk
  isplitl [Hb]
  · iexists (labelsOf o ho).view.read (Elt F) (m (labelsLoc d))
    isplitr
    · ipureintro; exact labels_read d o ho hw _
    · rw [show ((myLabels : Memref sig .scVector .vmem S256 .i32).view.write (Elt F) f ((ReadAs.same : ReadAs (Elt F) S256 .i32 S256 .i32).apply
          ((labelsOf o ho).view.read (Elt F) (m (labelsLoc d)))) Finset.univ) = (labelsOf o ho).view.read (Elt F) (m (labelsLoc d)) from
        View.write_whole_univ (cc0_scratch0 : Ref sig .scVector) _ _]
      iexact Hb
  isplitl [Hp]; · iexact Hp
  isplitl [Hs]; · iexact Hs
  isplitr; · iexact Hmw
  iexists _
  isplitr
  swap
  · iexact Ho
  · ipureintro
    intro p hp
    rcases Finset.mem_insert.mp hp with rfl | hp
    · exact .inr rfl
    · exact hW p hp

end Fetch

/-! ## Sixteen labels -/

section Sixteen

variable (fl : S256.Idx → BitVec 32) (n : ℕ) (hn : ∀ a, (![n] : Fin 1 → Nat) a + S16.size a ≤ S256.size a)

/-- The sixteen labels of a tile from its `n`-th on. -/
abbrev sixteen : IVec S16 32 :=
  (myLabels : Memref sig .scVector .vmem S256 .i32).view.readAt (Elt F) (Rect.unit (s := S256) ![n] S16.size hn).toLoadRect fl

/-- The `x`-th of them is the tile's label `n + x`. -/
theorem sixteen_eq (x : S16.Idx) : sixteen (F := F) fl n hn x = fl ((Rect.unit (s := S256) ![n] S16.size hn).toLoadRect.idx x) := by
  simp only [sixteen, View.readAt_apply, Memref.view_whole, View.read_whole]

theorem sixteen_idx (x : S16.Idx) : (((Rect.unit (s := S256) ![n] S16.size hn).toLoadRect.idx x) 0).val = n + (x 0).val := by
  rw [LoadRect.idx_apply]
  show n + 1 * (x 0).val = _
  rw [Nat.one_mul]

variable {fl} in
theorem sixteen_lt (hfl : ∀ x, (fl x).toNat < 1000) (x : S16.Idx) : (sixteen (F := F) fl n hn x).toNat < 1000 := by
  rw [sixteen_eq]; exact hfl _

variable {fl} in
theorem sixteen_labelAt {labs : S8192.Idx → BitVec 32} {w : ℕ} (h : Mine labs w fl) (hw : w < 32) (x : S16.Idx) :
    (sixteen (F := F) fl n hn x).toNat = labelAt labs (256 * w + n + (x 0).val) := by
  rw [sixteen_eq, h.labelAt hw, sixteen_idx, Nat.add_assoc]

/-- Sixteen words written at the columns that sixteen labels name. -/
theorem putLabels_run {Q : PUnit → sProp 𝕄} (v : FVec F S16 .f32) (r : IVec S16 32) (q : Check) (h : Inside r (sixteen (F := F) fl n hn)) (g : Vec F S32x1000 .f32) :
    (iprop(scr d c s cc0_scratch0 fl ∗ scr d c s cc0_scratch1 g) : sProp 𝕄)
      ⊢ iprop((iprop(scr d c s cc0_scratch0 fl ∗ scr d c s cc0_scratch1 (marked g r (sixteen (F := F) fl n hn) v h)) -∗ Q ⟨⟩)
          -∗ run d (putLabels v n hn r q : Tile F c s PUnit) Q) := by
  unfold putLabels
  simp only [Prog.lift, Prog.bind_op, Prog.bind_ret]
  iintro ⟨Hl, Hb⟩ Hk
  unfold run
  iapply (wp_load 𝒱₀ (V d c s) none Set.univ (m := myLabels) (S := Finset.univ) (Finset.subset_univ _)) $$ Hl
  iintro Hl
  iapply (put_run d v ⟨r, sixteen (F := F) fl n hn, q⟩ h g) $$ Hb
  iintro Hb
  iapply Hk
  isplitl [Hl]
  · iexact Hl
  · iexact Hb

end Sixteen

/-! ## A block of labelled rows -/

/-- The block the labels are written in, as a scratch. -/
theorem block_hot (g : Vec F S32x1000 .f32) : block d c s hot g ⊢ (scr d c s cc0_scratch1 g : sProp 𝕄) := by
  unfold block
  iintro ⟨%f, %hf, Hb⟩
  have hf : f = g := hf
  rw [← hf]
  iexact Hb

theorem hot_block (g : Vec F S32x1000 .f32) : (scr d c s cc0_scratch1 g : sProp 𝕄) ⊢ block d c s hot g := by
  unfold block
  iintro Hb
  iexists g
  isplitr
  · ipureintro; rfl
  · iexact Hb

/-- The ones of the labels of rows `32 n` on are those rows of the result. -/
theorem rows_hot (probs : S16384x1000.Idx → F .f32) (labs : S8192.Idx → BitVec 32) {n : ℕ} (hn : n < 256) :
    Rows (result probs labs) n (hotBlk fun r => labelAt labs (32 * n + r)) := by
  intro i j h0 h1
  have hj : (j 0).val < 32 := (j 0).isLt
  unfold result hotBlk
  rw [if_pos (show (i 0).val < 8192 by omega), h0, h1]

/-- The rows from 8192 on of `probs` are those rows of the result. -/
theorem rows_given (probs : S16384x1000.Idx → F .f32) (labs : S8192.Idx → BitVec 32) {n : ℕ} (hn : 256 ≤ n) {g : Vec F S32x1000 .f32} (h : Rows probs n g) :
    Rows (result probs labs) n g := by
  intro i j h0 h1
  rw [h i j h0 h1]
  unfold result
  rw [if_neg (show ¬ (i 0).val < 8192 by omega)]

/-- Writing one block of labelled rows: from the block at zero and the result's rows at anything, to the block at zero again
    and the rows at the result. -/
theorem labelBlock_run {Q : PUnit → sProp 𝕄} {O : CellTallies nD τ sig (HIx 1)} {W : Waits sig (HIx 1)} {w k : ℕ} (hw : w < 32) (hk : k < 8)
    {fl : S256.Idx → BitVec 32} (hl : ∀ i, (m (labelsLoc d) i).toNat < 1000) (hfl : Mine (m (labelsLoc d)) w fl)
    {o : Fin 2 → Nat} (ho : ∀ x, o x + S32x1000.size x ≤ S16384x1000.size x) (hn : o = ![32 * (8 * w + k), 0]) {n₀ n₁ : Nat}
    (h₀ : ∀ a, (![n₀] : Fin 1 → Nat) a + S16.size a ≤ S256.size a) (h₁ : ∀ a, (![n₁] : Fin 1 → Nat) a + S16.size a ≤ S256.size a)
    (e₀ : n₀ = 32 * k) (e₁ : n₁ = 32 * k + 16) (sem : DmaSem sig) (q₀ q₁ q₂ q₃ : Check) {fd : Buf (Elt F) (outLoc d)} :
    iprop(scr d c s cc0_scratch0 fl ∗ scr d c s cc0_scratch1 (zeroBlk : Vec F S32x1000 .f32) ∗ outBlk d fd (8 * w + k) ∗ sem0 d c s sem ∗ waits d c s O W)
      ⊢ iprop((iprop(scr d c s cc0_scratch0 fl ∗ scr d c s cc0_scratch1 (zeroBlk : Vec F S32x1000 .f32)
            ∗ outBlk d (result (m (probsLoc d)) (m (labelsLoc d))) (8 * w + k) ∗ sem0 d c s sem ∗ waits d c s O W) -∗ Q ⟨⟩)
          -∗ run d (labelBlock o ho n₀ n₁ h₀ h₁ sem q₀ q₁ q₂ q₃ : Tile F c s PUnit) Q) := by
  have lt := hfl.lt hw hl
  have i₀ : Inside rows₀ (sixteen (F := F) fl n₀ h₀) :=
    inside_of (fun x => by rw [rows₀_toNat]; have h : (x 0).val < 16 := (x 0).isLt; omega) (sixteen_lt n₀ h₀ lt)
  have i₁ : Inside rows₁ (sixteen (F := F) fl n₁ h₁) :=
    inside_of (fun x => by rw [rows₁_toNat]; have h : (x 0).val < 16 := (x 0).isLt; omega) (sixteen_lt n₁ h₁ lt)
  have l₀ : ∀ x : S16.Idx, (sixteen (F := F) fl n₀ h₀ x).toNat = labelAt (m (labelsLoc d)) (32 * (8 * w + k) + (x 0).val) := fun x => by
    rw [sixteen_labelAt n₀ h₀ hfl hw, e₀]; congr 1; omega
  have l₁ : ∀ x : S16.Idx, (sixteen (F := F) fl n₁ h₁ x).toNat = labelAt (m (labelsLoc d)) (32 * (8 * w + k) + (16 + (x 0).val)) := fun x => by
    rw [sixteen_labelAt n₁ h₁ hfl hw, e₁]; congr 1; omega
  unfold labelBlock run
  simp only [wp_bind]
  iintro ⟨Hl, Hb, Ho, Hs, Hw⟩ Hk
  iapply (putLabels_run d fl n₀ h₀ (k0_pay4 (F := F)) rows₀ q₀ i₀ zeroBlk) $$ [Hl Hb]
  · isplitl [Hl] <;> iassumption
  iintro ⟨Hl, Hb⟩
  iapply (putLabels_run d fl n₁ h₁ (k0_pay4 (F := F)) rows₁ q₁ i₁ _) $$ [Hl Hb]
  · isplitl [Hl] <;> iassumption
  rw [show marked (marked (zeroBlk : Vec F S32x1000 .f32) rows₀ (sixteen (F := F) fl n₀ h₀) (k0_pay4 (F := F)) i₀) rows₁ (sixteen (F := F) fl n₁ h₁) (k0_pay4 (F := F)) i₁
    = hotBlk (fun r => labelAt (m (labelsLoc d)) (32 * (8 * w + k) + r)) from set_set (lab := fun r => labelAt (m (labelsLoc d)) (32 * (8 * w + k) + r)) l₀ l₁ i₀ i₁]
  iintro ⟨Hl, Hb⟩
  iapply (putStart_run d hot (Memref.isWhole_whole _) o ho hn sem (f := result (m (probsLoc d)) (m (labelsLoc d))) (fd := fd)
    (rows_hot _ _ (by omega))) $$ [Hb Ho Hs]
  · isplitl [Hb]
    · iapply (hot_block d _) $$ Hb
    isplitl [Ho] <;> iassumption
  iintro Hf
  iapply (putWait_run d hot (Memref.isWhole_whole _) o ho sem) $$ [Hf Hw]
  · isplitl [Hf] <;> iassumption
  iintro ⟨Ho, Hb, Hs, Hw⟩
  ihave Hb := (block_hot d _) $$ Hb
  iapply (putLabels_run d fl n₀ h₀ (k0_pay3 (F := F)) rows₀ q₂ i₀ _) $$ [Hl Hb]
  · isplitl [Hl] <;> iassumption
  iintro ⟨Hl, Hb⟩
  iapply (putLabels_run d fl n₁ h₁ (k0_pay3 (F := F)) rows₁ q₃ i₁ _) $$ [Hl Hb]
  · isplitl [Hl] <;> iassumption
  rw [show marked (marked (hotBlk (fun r => labelAt (m (labelsLoc d)) (32 * (8 * w + k) + r))) rows₀ (sixteen (F := F) fl n₀ h₀) (k0_pay3 (F := F)) i₀) rows₁
      (sixteen (F := F) fl n₁ h₁) (k0_pay3 (F := F)) i₁
    = zeroBlk from clear_clear (lab := fun r => labelAt (m (labelsLoc d)) (32 * (8 * w + k) + r)) l₀ l₁ i₀ i₁]
  iintro ⟨Hl, Hb⟩
  iapply Hk
  isplitl [Hl]; · iexact Hl
  isplitl [Hb]; · iexact Hb
  isplitl [Ho]; · iexact Ho
  isplitl [Hs] <;> iassumption

end Cert.Proof

end
-- ==== Proof.Tile.lean ====
/-
  One tile's run of the kernel's body: from its part of the labels, its blocks of `probs` and its blocks of the result at
  anything, to the same with the result's blocks at the result.
-/
module

public import proofs.«01_k».proof.Proof.Labelled

@[expose] public section

set_option synthInstance.maxSize 4096

noncomputable section

namespace Cert.Proof

open Cert.KernelIdeal Cert.KernelIdeal.Gen
open Idealize.ShloMosaic Idealize.ShloMosaic.Transfers
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (d : Dev nD)

/-! ## One labelled block and one given -/

section Turn

variable {c : Fin τ.nSC} {s : Fin τ.nSub} {O : CellTallies nD τ sig (HIx 1)} {W : Waits sig (HIx 1)} {w k : ℕ} (hw : w < 32) (hk : k < 8)
variable {fl : S256.Idx → BitVec 32} (hl : ∀ i, (m (labelsLoc d) i).toNat < 1000) (hfl : Mine (m (labelsLoc d)) w fl)
variable {o : Fin 2 → Nat} (ho : ∀ x, o x + S32x1000.size x ≤ S16384x1000.size x) (hn : o = ![32 * (8 * w + k), 0])
variable {n₀ n₁ : Nat} (h₀ : ∀ a, (![n₀] : Fin 1 → Nat) a + S16.size a ≤ S256.size a) (h₁ : ∀ a, (![n₁] : Fin 1 → Nat) a + S16.size a ≤ S256.size a)
variable (e₀ : n₀ = 32 * k) (e₁ : n₁ = 32 * k + 16) (sem : DmaSem sig) (q₀ q₁ q₂ q₃ : Check)
variable (b : Memref sig .scVector .vmem S32x1000 .f32) (hb : b.IsWhole)
variable {o' : Fin 2 → Nat} (ho' : ∀ x, o' x + S32x1000.size x ≤ S16384x1000.size x) (hn' : o' = ![32 * (256 + (8 * w + k)), 0]) (inS outS : DmaSem sig)
variable {fd : Buf (Elt F) (outLoc d)}

include hw hk hl hfl hn hn' e₀ e₁ in
/-- One labelled block written, and the given block that was on its way in put on its way out. -/
theorem pass_run {Q : PUnit → sProp 𝕄} :
    iprop(scr d c s cc0_scratch0 fl ∗ scr d c s cc0_scratch1 (zeroBlk : Vec F S32x1000 .f32) ∗ outBlk d fd (8 * w + k) ∗ sem0 d c s sem
        ∗ fetching m d c s b (256 + (8 * w + k)) inS ∗ outBlk d fd (256 + (8 * w + k)) ∗ sem0 d c s outS ∗ waits d c s O W)
      ⊢ iprop((iprop(scr d c s cc0_scratch0 fl ∗ scr d c s cc0_scratch1 (zeroBlk : Vec F S32x1000 .f32)
            ∗ outBlk d (result (m (probsLoc d)) (m (labelsLoc d))) (8 * w + k) ∗ sem0 d c s sem
            ∗ (∃ g, putting d c s b g (result (m (probsLoc d)) (m (labelsLoc d))) (256 + (8 * w + k)) outS)
            ∗ probsBlk m d (256 + (8 * w + k)) ∗ sem0 d c s inS ∗ waits d c s O W) -∗ Q ⟨⟩)
          -∗ run d (labelBlock o ho n₀ n₁ h₀ h₁ sem q₀ q₁ q₂ q₃ : Tile F c s PUnit) fun _ =>
              run d (fetchWait b hb o' ho' inS : Tile F c s PUnit) fun _ => run d (putStart b hb o' ho' outS : Tile F c s PUnit) Q) := by
  iintro ⟨Hl, Hh, Ho, Hs, Hf, Ho', Hs', Hw⟩ Hk
  iapply (labelBlock_run m d hw hk hl hfl ho hn h₀ h₁ e₀ e₁ sem q₀ q₁ q₂ q₃ (fd := fd)) $$ [Hl Hh Ho Hs Hw]
  · isplitl [Hl]; · iexact Hl
    isplitl [Hh]; · iexact Hh
    isplitl [Ho]; · iexact Ho
    isplitl [Hs] <;> iassumption
  iintro ⟨Hl, Hh, Ho, Hs, Hw⟩
  iapply (fetchWait_run m d b hb o' ho' inS) $$ [Hf Hw]
  · isplitl [Hf] <;> iassumption
  iintro ⟨⟨%g, %hg, Hb⟩, Hp, Hi, Hw⟩
  iapply (putStart_run d b hb o' ho' hn' outS (fd := fd) (rows_given _ (m (labelsLoc d)) (by omega) hg)) $$ [Hb Ho' Hs']
  · isplitl [Hb]; · iexact Hb
    isplitl [Ho'] <;> iassumption
  iintro Hf
  iapply Hk
  isplitl [Hl]; · iexact Hl
  isplitl [Hh]; · iexact Hh
  isplitl [Ho]; · iexact Ho
  isplitl [Hs]; · iexact Hs
  isplitl [Hf]; · iexists g; iexact Hf
  isplitl [Hp]; · iexact Hp
  isplitl [Hi] <;> iassumption

variable {o'' : Fin 2 → Nat} (ho'' : ∀ x, o'' x + S32x1000.size x ≤ S16384x1000.size x) {n' : ℕ} (hn'' : o'' = ![32 * n', 0])

include hw hk hl hfl hn hn' e₀ e₁ hn'' in
/-- and, once it is out, the next given block on its way in. -/
theorem turn_run {Q : PUnit → sProp 𝕄} :
    iprop(scr d c s cc0_scratch0 fl ∗ scr d c s cc0_scratch1 (zeroBlk : Vec F S32x1000 .f32) ∗ outBlk d fd (8 * w + k) ∗ sem0 d c s sem
        ∗ fetching m d c s b (256 + (8 * w + k)) inS ∗ outBlk d fd (256 + (8 * w + k)) ∗ sem0 d c s outS ∗ probsBlk m d n' ∗ waits d c s O W)
      ⊢ iprop((iprop(scr d c s cc0_scratch0 fl ∗ scr d c s cc0_scratch1 (zeroBlk : Vec F S32x1000 .f32)
            ∗ outBlk d (result (m (probsLoc d)) (m (labelsLoc d))) (8 * w + k) ∗ sem0 d c s sem
            ∗ outBlk d (result (m (probsLoc d)) (m (labelsLoc d))) (256 + (8 * w + k)) ∗ sem0 d c s outS
            ∗ probsBlk m d (256 + (8 * w + k)) ∗ fetching m d c s b n' inS ∗ waits d c s O W) -∗ Q ⟨⟩)
          -∗ run d (labelBlock o ho n₀ n₁ h₀ h₁ sem q₀ q₁ q₂ q₃ : Tile F c s PUnit) fun _ =>
              run d (fetchWait b hb o' ho' inS : Tile F c s PUnit) fun _ => run d (putStart b hb o' ho' outS : Tile F c s PUnit) fun _ =>
              run d (putWait b hb o' ho' outS : Tile F c s PUnit) fun _ => run d (fetchStart b hb o'' ho'' inS : Tile F c s PUnit) Q) := by
  iintro ⟨Hl, Hh, Ho, Hs, Hf, Ho', Hs', Hp', Hw⟩ Hk
  iapply (pass_run m d hw hk hl hfl ho hn h₀ h₁ e₀ e₁ sem q₀ q₁ q₂ q₃ b hb ho' hn' inS outS (fd := fd)) $$ [Hl Hh Ho Hs Hf Ho' Hs' Hw]
  · isplitl [Hl]; · iexact Hl
    isplitl [Hh]; · iexact Hh
    isplitl [Ho]; · iexact Ho
    isplitl [Hs]; · iexact Hs
    isplitl [Hf]; · iexact Hf
    isplitl [Ho']; · iexact Ho'
    isplitl [Hs'] <;> iassumption
  iintro ⟨Hl, Hh, Ho, Hs, ⟨%g, Hf⟩, Hp, Hi, Hw⟩
  iapply (putWait_run d b hb o' ho' outS) $$ [Hf Hw]
  · isplitl [Hf] <;> iassumption
  iintro ⟨Ho', Hb, Hs', Hw⟩
  iapply (fetchStart_run m d b hb o'' ho'' hn'' inS) $$ [Hb Hp' Hi]
  · isplitl [Hb]; · iexact Hb
    isplitl [Hp'] <;> iassumption
  iintro Hf
  iapply Hk
  isplitl [Hl]; · iexact Hl
  isplitl [Hh]; · iexact Hh
  isplitl [Ho]; · iexact Ho
  isplitl [Hs]; · iexact Hs
  isplitl [Ho']; · iexact Ho'
  isplitl [Hs']; · iexact Hs'
  isplitl [Hp]; · iexact Hp
  isplitl [Hf] <;> iassumption

end Turn

/-! ## The blocks of a tile, one by one -/

omit [FloatOps F] in
theorem bigSep_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

omit [FloatOps F] in
/-- The eight labelled blocks of a tile and its eight given ones. -/
theorem blks_eq (Φ : ℕ → sProp 𝕄) (c s : ℕ) :
    (bigSep Finset.univ fun h : Fin 2 => bigSep Finset.univ fun k : Fin 8 => Φ (blkNo c s h k))
      = iprop((bigSep Finset.univ fun k : Fin 8 => Φ (8 * (16 * c + s) + k)) ∗ bigSep Finset.univ fun k : Fin 8 => Φ (256 + (8 * (16 * c + s) + k))) := by
  rw [bigSep_fin_two]
  exact congrArg₂ _ (bigSep_congr fun k _ => congrArg Φ (by unfold blkNo; simp)) (bigSep_congr fun k _ => congrArg Φ (by unfold blkNo; simp [Nat.add_assoc]))

section Buffers

variable {c : Fin τ.nSC} {s : Fin τ.nSub} (g : Vec F S32x1000 .f32)

/-- The two buffers the given rows pass through, as scratches and as blocks. -/
theorem buf0_block : (scr d c s cc0_scratch2 g : sProp 𝕄) ⊢ block d c s buf0 g := by
  unfold block
  iintro Hb
  iexists g
  isplitr
  · ipureintro; rfl
  · iexact Hb

@[inherit_doc buf0_block]
theorem buf1_block : (scr d c s cc0_scratch3 g : sProp 𝕄) ⊢ block d c s buf1 g := by
  unfold block
  iintro Hb
  iexists g
  isplitr
  · ipureintro; rfl
  · iexact Hb

@[inherit_doc buf0_block]
theorem block_buf0 : block d c s buf0 g ⊢ (iprop(∃ f, scr d c s cc0_scratch2 f) : sProp 𝕄) := by
  unfold block
  iintro ⟨%f, -, Hb⟩
  iexists f
  iexact Hb

@[inherit_doc buf0_block]
theorem block_buf1 : block d c s buf1 g ⊢ (iprop(∃ f, scr d c s cc0_scratch3 f) : sProp 𝕄) := by
  unfold block
  iintro ⟨%f, -, Hb⟩
  iexists f
  iexact Hb

/-- The clearing of the block the labels are written in, its two parts apart. -/
theorem cleared_run {Q : PUnit → sProp 𝕄} :
    (scr d c s cc0_scratch1 g : sProp 𝕄)
      ⊢ iprop((scr d c s cc0_scratch1 (zeroBlk : Vec F S32x1000 .f32) -∗ Q ⟨⟩)
          -∗ run d (Scf.Loop.for k0_t1_loop k0_t1_ok ⟨⟩ fun t _ => clearStrips (strips t) : Tile F c s PUnit) fun _ =>
              run d (putAll k0_pay3 (tails₀ ++ tails₁) : Tile F c s PUnit) Q) := by
  have h := clear_run (c := c) (s := s) (Q := Q) d g
  unfold run at *
  rwa [wp_bind] at h

end Buffers

/-! ## The body -/

abbrev cV (L : grid0.Coords) : Fin τ.nSC := (L 0).castLE hcore0
abbrev jV (L : grid0.Coords) : Fin τ.nSub := (L 1).castLE hsub0

/-- The number of a tile among the 32. -/
abbrev no (L : grid0.Coords) : ℕ := 16 * (L 0).val + (L 1).val

theorem no_lt (L : grid0.Coords) : no L < 32 := by
  have h0 : (L 0).val < 2 := (L 0).isLt
  have h1 : (L 1).val < 16 := (L 1).isLt
  unfold no
  omega

omit [FloatOps F] in
/-- What a tile holds, its blocks one by one. -/
theorem held_eq (f : Buf (Elt F) (outLoc d)) (c s : ℕ) :
    held m d f c s = iprop(labelsPart m d (16 * c + s)
      ∗ ((bigSep Finset.univ fun k : Fin 8 => probsBlk m d (8 * (16 * c + s) + k)) ∗ bigSep Finset.univ fun k : Fin 8 => probsBlk m d (256 + (8 * (16 * c + s) + k)))
      ∗ (bigSep Finset.univ fun k : Fin 8 => outBlk d f (8 * (16 * c + s) + k)) ∗ bigSep Finset.univ fun k : Fin 8 => outBlk d f (256 + (8 * (16 * c + s) + k))) := by
  unfold held
  rw [blks_eq (fun n => probsBlk m d n), blks_eq (fun n => outBlk d f n)]

/-- Two offsets of whole rows are one where the rows are. -/
theorem at_row {a b : ℕ} (h : a = b) : (![a, 0] : Fin 2 → ℕ) = ![b, 0] := by rw [h]

/-- A tile's run: whatever its blocks of the result held, they hold the result. -/
theorem tile_body (L : grid0.Coords) (hF : (K (F := F)).Facts) (hl : ∀ i, (m (labelsLoc d) i).toNat < 1000)
    (O : CellTallies nD τ sig (HIx 1)) (W : Waits sig (HIx 1)) (hO : ∀ g, O g none = 0) :
    iprop(levAts (K (F := F)).L (K (F := F)).lev ∗ emp ∗ held m d (m (outLoc d)) (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__body L probsM (Memref.isWhole_whole _) labelsM (Memref.isWhole_whole _) outM (Memref.isWhole_whole _)
            myLabels (Memref.isWhole_whole _) hot (Memref.isWhole_whole _) buf0 (Memref.isWhole_whole _) buf1 (Memref.isWhole_whole _)
            cc0_scratch4 cc0_scratch5 cc0_scratch6 cc0_scratch7
            cc0_scoped0 cc0_scoped1 cc0_scoped2 cc0_scoped3 cc0_scoped4 cc0_scoped5 cc0_scoped6 cc0_scoped7 cc0_scoped8)
          fun _ => iprop(held m d (result (m (probsLoc d)) (m (labelsLoc d))) (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hw := no_lt L
  rw [(K (F := F)).scopedBufs_V hF d (cV L) (jV L), SparseCore.Cfg.scopedSems0_V (Val := Elt F) d (cV L) (jV L), ownSems0_eq, ownBufs_eq, body_eq]
  unfold moves
  simp only [wp_bind]
  rw [held_eq, held_eq]
  simp only [bigSep_eight]
  iintro ⟨#Hlv, -, ⟨Hlab, ⟨Hlow, P0, P1, P2, P3, P4, P5, P6, P7⟩, ⟨A0, A1, A2, A3, A4, A5, A6, A7⟩, B0, B1, B2, B3, B4, B5, B6, B7⟩,
    ⟨⟨⟨%f₀, Hl⟩, ⟨%f₁, Hh⟩, ⟨%f₂, Hx⟩, %f₃, Hy⟩, Hbufs⟩,
    ⟨⟨S0, S1, S2, S3, S4, S5, S6, S7, S8, I0, I1, T0, T1⟩, Hsems⟩, HO⟩
  ihave Hmw := (show levAts (K (F := F)).L (K (F := F)).lev ⊢ MayWaits (V d (cV L) (jV L)) (none : HIx 1) O from
    (K (F := F)).mayWaits_none (thr := V d (cV L) (jV L)) hO) $$ Hlv
  ihave Hw := (show iprop(MayWaits (V d (cV L) (jV L)) (none : HIx 1) O ∗ owes (V d (cV L) (jV L)) O W) ⊢ waits d (cV L) (jV L) O W from ?own) $$ [Hmw HO]
  case own =>
    unfold waits
    iintro ⟨#Hmw, HO⟩
    isplitr; · iexact Hmw
    iexists W
    isplitr
    · ipureintro; exact fun p hp => .inl hp
    · iexact HO
  · isplitl [Hmw] <;> iassumption
  -- the labels, and the first two given blocks
  iapply (fetchLabels_run m d (k0_off1 L) (k0_off1_inb L) (w := no L) ((k0_off1_eq L).trans (congrArg (fun n => (![n] : Fin 1 → ℕ)) (by unfold no; omega)))
    cc0_scoped0.sem f₀) $$ [Hl Hlab S0 Hw]
  · isplitl [Hl]; · iexact Hl
    isplitl [Hlab]; · iexact Hlab
    isplitl [S0] <;> iassumption
  iintro ⟨⟨%fl, %hfl, Hl⟩, Hlab, S0, Hw⟩
  ihave Hx := (buf0_block d f₂) $$ Hx
  ihave Hy := (buf1_block d f₃) $$ Hy
  iapply (fetchStart_run m d buf0 (Memref.isWhole_whole _) _ (k0_off2_inb L 0) (n := 256 + (8 * no L + 0)) ((k0_off2_eq L 0).trans (at_row (by rw [Fin.val_zero]; unfold no; omega)))
    cc0_scratch4.sem) $$ [Hx P0 I0]
  · isplitl [Hx]; · iexact Hx
    isplitl [P0] <;> iassumption
  iintro Hx
  iapply (fetchStart_run m d buf1 (Memref.isWhole_whole _) _ (k0_off2_inb L 1) (n := 256 + (8 * no L + 1)) ((k0_off2_eq L 1).trans (at_row (by rw [Fin.val_one]; unfold no; omega)))
    cc0_scratch5.sem) $$ [Hy P1 I1]
  · isplitl [Hy]; · iexact Hy
    isplitl [P1] <;> iassumption
  iintro Hy
  -- the block of the labels, cleared
  iapply (cleared_run d f₁) $$ Hh
  iintro Hh
  -- the eight turns
  iapply (turn_run m d hw (k := 0) (by omega) hl hfl (k0_off65_inb L) ((k0_off65_eq L).trans (at_row (by unfold no; omega)))
    inb_S256_S16_0 inb_S256_S16_16 rfl rfl cc0_scoped1.sem q17 q18 q19 q20 buf0 (Memref.isWhole_whole _)
    (k0_off66_inb L 0) ((k0_off66_eq L 0).trans (at_row (by rw [Fin.val_zero]; unfold no; omega))) cc0_scratch4.sem cc0_scratch6.sem
    (k0_off66_inb L 1) (n' := 256 + (8 * no L + 2)) ((k0_off66_eq L 1).trans (at_row (by rw [Fin.val_one]; unfold no; omega))) (fd := m (outLoc d))) $$ [Hl Hh A0 S1 Hx B0 T0 P2 Hw]
  · isplitl [Hl]; · iexact Hl
    isplitl [Hh]; · iexact Hh
    isplitl [A0]; · iexact A0
    isplitl [S1]; · iexact S1
    isplitl [Hx]; · iexact Hx
    isplitl [B0]; · iexact B0
    isplitl [T0]; · iexact T0
    isplitl [P2] <;> iassumption
  iintro ⟨Hl, Hh, A0, S1, B0, T0, P0, Hx, Hw⟩
  iapply (turn_run m d hw (k := 1) (by omega) hl hfl (k0_off67_inb L) ((k0_off67_eq L).trans (at_row (by unfold no; omega)))
    inb_S256_S16_32 inb_S256_S16_48 rfl rfl cc0_scoped2.sem q21 q22 q23 q24 buf1 (Memref.isWhole_whole _)
    (k0_off68_inb L 0) ((k0_off68_eq L 0).trans (at_row (by rw [Fin.val_zero]; unfold no; omega))) cc0_scratch5.sem cc0_scratch7.sem
    (k0_off68_inb L 1) (n' := 256 + (8 * no L + 3)) ((k0_off68_eq L 1).trans (at_row (by rw [Fin.val_one]; unfold no; omega))) (fd := m (outLoc d))) $$ [Hl Hh A1 S2 Hy B1 T1 P3 Hw]
  · isplitl [Hl]; · iexact Hl
    isplitl [Hh]; · iexact Hh
    isplitl [A1]; · iexact A1
    isplitl [S2]; · iexact S2
    isplitl [Hy]; · iexact Hy
    isplitl [B1]; · iexact B1
    isplitl [T1]; · iexact T1
    isplitl [P3] <;> iassumption
  iintro ⟨Hl, Hh, A1, S2, B1, T1, P1, Hy, Hw⟩
  iapply (turn_run m d hw (k := 2) (by omega) hl hfl (k0_off69_inb L) ((k0_off69_eq L).trans (at_row (by unfold no; omega)))
    inb_S256_S16_64 inb_S256_S16_80 rfl rfl cc0_scoped3.sem q25 q26 q27 q28 buf0 (Memref.isWhole_whole _)
    (k0_off70_inb L 0) ((k0_off70_eq L 0).trans (at_row (by rw [Fin.val_zero]; unfold no; omega))) cc0_scratch4.sem cc0_scratch6.sem
    (k0_off70_inb L 1) (n' := 256 + (8 * no L + 4)) ((k0_off70_eq L 1).trans (at_row (by rw [Fin.val_one]; unfold no; omega))) (fd := m (outLoc d))) $$ [Hl Hh A2 S3 Hx B2 T0 P4 Hw]
  · isplitl [Hl]; · iexact Hl
    isplitl [Hh]; · iexact Hh
    isplitl [A2]; · iexact A2
    isplitl [S3]; · iexact S3
    isplitl [Hx]; · iexact Hx
    isplitl [B2]; · iexact B2
    isplitl [T0]; · iexact T0
    isplitl [P4] <;> iassumption
  iintro ⟨Hl, Hh, A2, S3, B2, T0, P2, Hx, Hw⟩
  iapply (turn_run m d hw (k := 3) (by omega) hl hfl (k0_off71_inb L) ((k0_off71_eq L).trans (at_row (by unfold no; omega)))
    inb_S256_S16_96 inb_S256_S16_112 rfl rfl cc0_scoped4.sem q29 q30 q31 q32 buf1 (Memref.isWhole_whole _)
    (k0_off72_inb L 0) ((k0_off72_eq L 0).trans (at_row (by rw [Fin.val_zero]; unfold no; omega))) cc0_scratch5.sem cc0_scratch7.sem
    (k0_off72_inb L 1) (n' := 256 + (8 * no L + 5)) ((k0_off72_eq L 1).trans (at_row (by rw [Fin.val_one]; unfold no; omega))) (fd := m (outLoc d))) $$ [Hl Hh A3 S4 Hy B3 T1 P5 Hw]
  · isplitl [Hl]; · iexact Hl
    isplitl [Hh]; · iexact Hh
    isplitl [A3]; · iexact A3
    isplitl [S4]; · iexact S4
    isplitl [Hy]; · iexact Hy
    isplitl [B3]; · iexact B3
    isplitl [T1]; · iexact T1
    isplitl [P5] <;> iassumption
  iintro ⟨Hl, Hh, A3, S4, B3, T1, P3, Hy, Hw⟩
  iapply (turn_run m d hw (k := 4) (by omega) hl hfl (k0_off73_inb L) ((k0_off73_eq L).trans (at_row (by unfold no; omega)))
    inb_S256_S16_128 inb_S256_S16_144 rfl rfl cc0_scoped5.sem q33 q34 q35 q36 buf0 (Memref.isWhole_whole _)
    (k0_off74_inb L 0) ((k0_off74_eq L 0).trans (at_row (by rw [Fin.val_zero]; unfold no; omega))) cc0_scratch4.sem cc0_scratch6.sem
    (k0_off74_inb L 1) (n' := 256 + (8 * no L + 6)) ((k0_off74_eq L 1).trans (at_row (by rw [Fin.val_one]; unfold no; omega))) (fd := m (outLoc d))) $$ [Hl Hh A4 S5 Hx B4 T0 P6 Hw]
  · isplitl [Hl]; · iexact Hl
    isplitl [Hh]; · iexact Hh
    isplitl [A4]; · iexact A4
    isplitl [S5]; · iexact S5
    isplitl [Hx]; · iexact Hx
    isplitl [B4]; · iexact B4
    isplitl [T0]; · iexact T0
    isplitl [P6] <;> iassumption
  iintro ⟨Hl, Hh, A4, S5, B4, T0, P4, Hx, Hw⟩
  iapply (turn_run m d hw (k := 5) (by omega) hl hfl (k0_off75_inb L) ((k0_off75_eq L).trans (at_row (by unfold no; omega)))
    inb_S256_S16_160 inb_S256_S16_176 rfl rfl cc0_scoped6.sem q37 q38 q39 q40 buf1 (Memref.isWhole_whole _)
    (k0_off76_inb L 0) ((k0_off76_eq L 0).trans (at_row (by rw [Fin.val_zero]; unfold no; omega))) cc0_scratch5.sem cc0_scratch7.sem
    (k0_off76_inb L 1) (n' := 256 + (8 * no L + 7)) ((k0_off76_eq L 1).trans (at_row (by rw [Fin.val_one]; unfold no; omega))) (fd := m (outLoc d))) $$ [Hl Hh A5 S6 Hy B5 T1 P7 Hw]
  · isplitl [Hl]; · iexact Hl
    isplitl [Hh]; · iexact Hh
    isplitl [A5]; · iexact A5
    isplitl [S6]; · iexact S6
    isplitl [Hy]; · iexact Hy
    isplitl [B5]; · iexact B5
    isplitl [T1]; · iexact T1
    isplitl [P7] <;> iassumption
  iintro ⟨Hl, Hh, A5, S6, B5, T1, P5, Hy, Hw⟩
  iapply (pass_run m d hw (k := 6) (by omega) hl hfl (k0_off77_inb L) ((k0_off77_eq L).trans (at_row (by unfold no; omega)))
    inb_S256_S16_192 inb_S256_S16_208 rfl rfl cc0_scoped7.sem q41 q42 q43 q44 buf0 (Memref.isWhole_whole _)
    (k0_off78_inb L) ((k0_off78_eq L).trans (at_row (by unfold no; omega))) cc0_scratch4.sem cc0_scratch6.sem (fd := m (outLoc d))) $$ [Hl Hh A6 S7 Hx B6 T0 Hw]
  · isplitl [Hl]; · iexact Hl
    isplitl [Hh]; · iexact Hh
    isplitl [A6]; · iexact A6
    isplitl [S7]; · iexact S7
    isplitl [Hx]; · iexact Hx
    isplitl [B6]; · iexact B6
    isplitl [T0] <;> iassumption
  iintro ⟨Hl, Hh, A6, S7, ⟨%g0, Hx⟩, P6, I0, Hw⟩
  iapply (pass_run m d hw (k := 7) (by omega) hl hfl (k0_off79_inb L) ((k0_off79_eq L).trans (at_row (by unfold no; omega)))
    inb_S256_S16_224 inb_S256_S16_240 rfl rfl cc0_scoped8.sem q45 q46 q47 q48 buf1 (Memref.isWhole_whole _)
    (k0_off80_inb L 1) ((k0_off80_eq L 1).trans (at_row (by rw [Fin.val_one]; unfold no; omega))) cc0_scratch5.sem cc0_scratch7.sem (fd := m (outLoc d))) $$ [Hl Hh A7 S8 Hy B7 T1 Hw]
  · isplitl [Hl]; · iexact Hl
    isplitl [Hh]; · iexact Hh
    isplitl [A7]; · iexact A7
    isplitl [S8]; · iexact S8
    isplitl [Hy]; · iexact Hy
    isplitl [B7]; · iexact B7
    isplitl [T1] <;> iassumption
  iintro ⟨Hl, Hh, A7, S8, ⟨%g1, Hy⟩, P7, I1, Hw⟩
  -- the last two given blocks, once out
  iapply (putWait_run d buf0 (Memref.isWhole_whole _) _ (k0_off80_inb L 0) cc0_scratch6.sem) $$ [Hx Hw]
  · isplitl [Hx] <;> iassumption
  iintro ⟨B6, Hx, T0, Hw⟩
  iapply (putWait_run d buf1 (Memref.isWhole_whole _) _ (k0_off80_inb L 1) cc0_scratch7.sem) $$ [Hy Hw]
  · isplitl [Hy] <;> iassumption
  iintro ⟨B7, Hy, T1, Hw⟩
  ihave Hx := (block_buf0 d g0) $$ Hx
  ihave Hy := (block_buf1 d g1) $$ Hy
  unfold waits
  icases Hw with ⟨-, Hw⟩
  isplitl [Hlab Hlow P0 P1 P2 P3 P4 P5 P6 P7 A0 A1 A2 A3 A4 A5 A6 A7 B0 B1 B2 B3 B4 B5 B6 B7]
  · isplitl [Hlab]; · iexact Hlab
    isplitl [Hlow P0 P1 P2 P3 P4 P5 P6 P7]
    · isplitl [Hlow]; · iexact Hlow
      isplitl [P0]; · iexact P0
      isplitl [P1]; · iexact P1
      isplitl [P2]; · iexact P2
      isplitl [P3]; · iexact P3
      isplitl [P4]; · iexact P4
      isplitl [P5]; · iexact P5
      isplitl [P6]; · iexact P6
      iexact P7
    isplitl [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6]; · iexact A6
      iexact A7
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  isplitl [Hl Hh Hx Hy Hbufs]
  · isplitl [Hl Hh Hx Hy]
    · isplitl [Hl]; · iexists fl; iexact Hl
      isplitl [Hh]; · iexists zeroBlk; iexact Hh
      isplitl [Hx] <;> iassumption
    · iexact Hbufs
  isplitl [S0 S1 S2 S3 S4 S5 S6 S7 S8 I0 I1 T0 T1 Hsems]
  · isplitl [S0 S1 S2 S3 S4 S5 S6 S7 S8 I0 I1 T0 T1]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [I0]; · iexact I0
      isplitl [I1]; · iexact I1
      isplitl [T0]; · iexact T0
      iexact T1
    · iexact Hsems
  · iexact Hw

end Cert.Proof

end
-- ==== Proof.Launch.lean ====
/-
  The launch: each tile is handed what it holds with the result at the launch's contents and hands it back at the result;
  so every run of the program leaves the four arguments as they were, the result at `result`, every semaphore at zero.
-/
module

public import proofs.«01_k».proof.Proof.Tile

@[expose] public section

set_option synthInstance.maxSize 4096

noncomputable section

namespace Cert.Proof

open Cert.KernelIdeal Cert.KernelIdeal.Gen
open Idealize.ShloMosaic Idealize.ShloMosaic.Transfers
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## What is handed over -/

variable [FloatOps F]

/-- The result's contents after the run. -/
abbrev outAt (d : Dev nD) : Buf (Elt F) (outLoc d) := result (m (probsLoc d)) (m (labelsLoc d))

/-- What the tiles of SparseCore `c` hold together, with the result at `f`. -/
def heldBy (d : Dev nD) (f : Buf (Elt F) (outLoc d)) (c : ℕ) : sProp 𝕄 := bigSep Finset.univ fun s : Fin 16 => held m d f c s

omit [FloatOps F] in
instance heldBy_storable (d : Dev nD) (f : Buf (Elt F) (outLoc d)) (c : ℕ) : BI.Storable (upEmb : UEmb _ 𝕄) (heldBy m d f c) := by
  unfold heldBy; infer_instance

/-- A SparseCore is handed its tiles' holdings, a tile its own; they come back with the result written. -/
def P : (K (F := F)).Pay (nD := nD) (Val := Elt F) (Name := ℕ) (U := UU) where
  st := fun q d c => match q with | 0 => heldBy m d (m (outLoc d)) c.val
  dn := fun q d c => match q with | 0 => heldBy m d (outAt m d) c.val
  go := fun q d c i => match q with | 0 => held m d (m (outLoc d)) c.val i.val
  td := fun q d c i => match q with | 0 => held m d (outAt m d) c.val i.val
  x := fun _ _ => iprop(emp)

instance P_storable : (P m).IsStorable where
  st q d c := match q with | 0 => (inferInstance : BI.Storable (upEmb : UEmb _ 𝕄) (heldBy m d (m (outLoc d)) c.val))
  dn q d c := match q with | 0 => (inferInstance : BI.Storable (upEmb : UEmb _ 𝕄) (heldBy m d (outAt m d) c.val))
  go q d c i := match q with | 0 => (inferInstance : BI.Storable (upEmb : UEmb _ 𝕄) (held m d (m (outLoc d)) c.val i.val))
  td q d c i := match q with | 0 => (inferInstance : BI.Storable (upEmb : UEmb _ 𝕄) (held m d (outAt m d) c.val i.val))

/-- A SparseCore's holdings are its tiles', before and after. -/
theorem vecSplit : (K (F := F)).VecSplit' (P m) 0 := by
  intro d c
  show heldBy m d (m (outLoc d)) c.val ⊢ |={Set.univ}=> iprop((bigSep Finset.univ fun i : Fin 16 => held m d (m (outLoc d)) c.val i.val)
    ∗ ((bigSep Finset.univ fun i : Fin 16 => held m d (outAt m d) c.val i.val) -∗ heldBy m d (outAt m d) c.val))
  unfold heldBy
  iintro H
  imodintro
  isplitl [H]
  · iexact H
  · iintro H; iexact H

/-! ## The tiles' obligation -/

/-- A tile's coordinates in the grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          probsM (Memref.isWhole_whole _) labelsM (Memref.isWhole_whole _) outM (Memref.isWhole_whole _)
          myLabels (Memref.isWhole_whole _) hot (Memref.isWhole_whole _) buf0 (Memref.isWhole_whole _) buf1 (Memref.isWhole_whole _)
          cc0_scratch4 cc0_scratch5 cc0_scratch6 cc0_scratch7
          cc0_scoped0 cc0_scoped1 cc0_scoped2 cc0_scoped3 cc0_scoped4 cc0_scoped5 cc0_scoped6 cc0_scoped7 cc0_scoped8) ⟨⟩ c s := rfl

omit [FloatOps F] in
/-- Waits under no call's index are waits under none or this call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

/-- Every label names a column. -/
def LabelsOK : Prop := ∀ (d : Dev nD) i, (m (labelsLoc d) i).toNat < 1000

set_option maxRecDepth 1024 in
theorem tileObl (hl : LabelsOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body m d (coordsV ⟨_, hc.1⟩ ⟨_, hc.2⟩) facts (hl d) O W hO).trans (wp_mono frame _ _ fun _ => obl_post)

/-! ## The launch's own resources -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

/-- The threads are handed nothing of the launch's besides. -/
theorem no_extra : (bigSep Finset.univ fun thr : Thread nD τ => bigSep Finset.univ fun q : Fin 1 => (P m).x q thr) = (iprop(emp) : sProp 𝕄) :=
  (bigSep_congr fun _ _ => bigSep_emp' _).trans (bigSep_emp' _)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [no_extra]
  iempintro

/-! ## The TensorCore's program -/

abbrev lowerLoc (d : Dev nD) : Loc nD τ sig := (SparseCore.T d).loc main_arg2
abbrev upperLoc (d : Dev nD) : Loc nD τ sig := (SparseCore.T d).loc main_arg3

omit [FloatOps F] in
theorem unscopedBufs_eq (d : Dev nD) (W : (b : Ref sig .tc) → Buf (Elt F) ((d.tc : Thread nD τ).loc b)) :
    (unscopedBufs d W : sProp 𝕄) = iprop((probsLoc d ↦{fullShare} W main_arg0) ∗ (labelsLoc d ↦{fullShare} W main_arg1)
      ∗ (lowerLoc d ↦{fullShare} W main_arg2) ∗ (upperLoc d ↦{fullShare} W main_arg3) ∗ outLoc d ↦{fullShare} W main_v0) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

/-- What the SparseCores are handed, and hand back: the three arrays, whole. -/
theorem st_eq (d : Dev nD) : (bigSep Finset.univ fun c : Fin ((K (F := F)).nCore 0) => (P m).st 0 d c)
    = iprop((labelsLoc d ↦{fullShare} m (labelsLoc d)) ∗ (probsLoc d ↦{fullShare} m (probsLoc d)) ∗ outLoc d ↦{fullShare} m (outLoc d) : sProp 𝕄) :=
  held_all m d (m (outLoc d))
@[inherit_doc st_eq]
theorem dn_eq (d : Dev nD) : (bigSep Finset.univ fun c : Fin ((K (F := F)).nCore 0) => (P m).dn 0 d c)
    = iprop((labelsLoc d ↦{fullShare} m (labelsLoc d)) ∗ (probsLoc d ↦{fullShare} m (probsLoc d)) ∗ outLoc d ↦{fullShare} outAt m d : sProp 𝕄) :=
  held_all m d (outAt m d)

/-- The arrays at the end: the arguments as they were, the result written. -/
abbrev FIN (d : Dev nD) : sProp 𝕄 :=
  iprop((probsLoc d ↦{fullShare} m (probsLoc d)) ∗ (labelsLoc d ↦{fullShare} m (labelsLoc d)) ∗ (lowerLoc d ↦{fullShare} m (lowerLoc d))
    ∗ (upperLoc d ↦{fullShare} m (upperLoc d)) ∗ outLoc d ↦{fullShare} outAt m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hp, Hl, Hlo, Hup, Ho⟩, Hts, -⟩, -⟩
  iapply ((K (F := F)).wp_run (D (F := F)) 𝒱 (EH := EH) (P := P m) κ d 0) $$ [Hst Hp Hl Hlo Hup Ho Hb Hts]
  isplitr; · iexact Hctx
  isplitl [Hst]; · iexact Hst
  isplitl [Hp Hl Ho]
  · rw [st_eq]
    isplitl [Hl]; · iexact Hl
    isplitl [Hp] <;> iassumption
  iintro ⟨Hst, Hdn⟩
  ihave Hdn := (Entails.of_eq (dn_eq m d)) $$ Hdn
  icases Hdn with ⟨Hl, Hp, Ho⟩
  imodintro
  isplitl [Hst]; · iexact Hst
  isplitr [Hb Hts]
  · isplitl [Hp]; · iexact Hp
    isplitl [Hl]; · iexact Hl
    isplitl [Hlo]; · iexact Hlo
    isplitl [Hup] <;> iassumption
  isplitl [Hb] <;> iassumption

/-! ## The run -/

/-- What a final state says of device `d`'s arrays. -/
def fq (d : Dev nD) (s : Phys nD τ sig (Elt F)) : Prop :=
  s.mem.mem (probsLoc d) = m (probsLoc d) ∧ s.mem.mem (labelsLoc d) = m (labelsLoc d) ∧ s.mem.mem (lowerLoc d) = m (lowerLoc d)
    ∧ s.mem.mem (upperLoc d) = m (upperLoc d) ∧ s.mem.mem (outLoc d) = outAt m d

omit [FloatOps F] in
/-- An array held whole is what the state has. -/
theorem agrees {s : Phys nD τ sig (Elt F)} {ℓ : Loc nD τ sig} {f : Buf (Elt F) ℓ} :
    iprop(SI s ∗ (ℓ ↦{fullShare} f)) ⊢ (iprop(⌜s.mem.mem ℓ = f⌝ ∗ SI s ∗ (ℓ ↦{fullShare} f)) : sProp 𝕄) := by
  iintro H
  ihave H := (persistent_entails_right (SI_pointsTo_agree (st := s) (ℓ := ℓ) (I := Finset.univ) (q := fullShare) (f := f))) $$ H
  icases H with ⟨%h, H⟩
  isplitr
  · ipureintro; exact funext fun i => h i (Finset.mem_univ i)
  · iexact H

theorem hfin (d : Dev nD) (s : Phys nD τ sig (Elt F)) : iprop(FIN m d ∗ SI s) ⊢ (⌜fq m d s⌝ : sProp 𝕄) := by
  iintro ⟨⟨Hp, Hl, Hlo, Hup, Ho⟩, HSI⟩
  ihave H := agrees $$ [HSI Hp]
  · isplitl [HSI] <;> iassumption
  icases H with ⟨%h1, HSI, -⟩
  ihave H := agrees $$ [HSI Hl]
  · isplitl [HSI] <;> iassumption
  icases H with ⟨%h2, HSI, -⟩
  ihave H := agrees $$ [HSI Hlo]
  · isplitl [HSI] <;> iassumption
  icases H with ⟨%h3, HSI, -⟩
  ihave H := agrees $$ [HSI Hup]
  · isplitl [HSI] <;> iassumption
  icases H with ⟨%h4, HSI, -⟩
  ihave H := agrees $$ [HSI Ho]
  · isplitl [HSI] <;> iassumption
  icases H with ⟨%h5, -, -⟩
  ipureintro
  exact ⟨h1, h2, h3, h4, h5⟩

/-- What a run ends in: on every device the arguments unchanged and the result `result`, and every semaphore at zero. -/
def Ends (r : PUnit × MemSt nD τ sig (Elt F)) : Prop :=
  (∀ d : Dev nD, r.2.mem (probsLoc d) = m (probsLoc d) ∧ r.2.mem (labelsLoc d) = m (labelsLoc d) ∧ r.2.mem (lowerLoc d) = m (lowerLoc d)
    ∧ r.2.mem (upperLoc d) = m (upperLoc d) ∧ r.2.mem (outLoc d) = outAt m d) ∧ r.2.sem = fun _ => 0

/-- Every weakly fair run of the program from labels that name columns terminates, faults nowhere, and ends so. -/
theorem run_main [∀ e, Nonempty (Elt F e)] (hl : LabelsOK m) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof

end
-- ==== Proof.Pre.lean ====
/-
  What the two preconditions of the statement say of the arguments' words: every label names a column; the lower rows are
  counted in order; every upper row is named by some word of the last argument.
-/
module

public import proofs.«01_k».proof.Pre_labels_in_range
public import proofs.«01_k».proof.Pre_rows_as_given
public import Idealize.ShloMosaic.Lib.WordCmp
public import Idealize.ShloMosaic.PureOps.Reduce

@[expose] public section

set_option synthInstance.maxSize 4096

noncomputable section

namespace Cert.Proof

open Idealize.ShloMosaic

/-! ## The shapes the preconditions are stated over -/

/-- The shape relations `labels_in_range` takes hold. -/
theorem labelsFacts : Cert.Pre_labels_in_range.Facts where
  bcast_S_S8192 := by decide

/-- The shape relations `rows_as_given` takes hold. -/
theorem rowsFacts : Cert.Pre_rows_as_given.Facts where
  bcast_S_S8192 := by decide
  bcast_S8192_S8192x1_0 := by decide
  bcast_S8192_S1x8192_1 := by decide
  bcast_S8192x1_S8192x8192_0_1 := by decide
  bcast_S1x8192_S8192x8192_0_1 := by decide
  reducesTo_S8192x8192_S8192_d0 := by decide
  h_S_ := by decide

/-! ## Bits -/

/-- Both of two bits are set when their conjunction is. -/
theorem both_of_and {p q : BitVec 1} (h : IntOp.andi p q = 1#1) : p = 1#1 ∧ q = 1#1 := by
  rcases BitVec.eq_zero_or_eq_one p with rfl | rfl <;> rcases BitVec.eq_zero_or_eq_one q with rfl | rfl <;>
    first | exact ⟨rfl, rfl⟩ | exact absurd h (by decide)

/-- One of two bits is set when their disjunction is. -/
theorem one_of_or {p q : BitVec 1} (h : IntOp.ori p q = 1#1) : p = 1#1 ∨ q = 1#1 := by
  rcases BitVec.eq_zero_or_eq_one p with rfl | rfl
  · rcases BitVec.eq_zero_or_eq_one q with rfl | rfl
    · exact absurd h (by decide)
    · exact Or.inr rfl
  · exact Or.inl rfl

/-- A disjunction folded over a list that ends set began set or met a set bit. -/
theorem set_of_fold {ι : Type} (bit : ι → BitVec 1) : ∀ (l : List ι) (b : BitVec 1),
    l.foldl (fun r n => IntOp.ori r (bit n)) b = 1#1 → b = 1#1 ∨ ∃ n ∈ l, bit n = 1#1
  | [], b, h => Or.inl h
  | n :: l, b, h => by
    rcases set_of_fold bit l _ h with e | ⟨k, hk, e⟩
    · rcases one_of_or e with e | e
      · exact Or.inl e
      · exact Or.inr ⟨n, List.mem_cons_self, e⟩
    · exact Or.inr ⟨k, List.mem_cons_of_mem _ hk, e⟩

/-- A disjunction of bits along some axes, none to start from, is set at an index only where some bit that falls on it is. -/
theorem some_set {s t u : Shape} {axes : List (Fin s.rank)} (x : IVec s 1) (h : s.ReducesTo axes t) (hu : 0 < u.numel) (j : t.Idx)
    (e : Host.reduce IntOp.ori x (constantI u 1 0#1) h hu j = 1#1) : ∃ i : s.Idx, h.drop i = j ∧ x i = 1#1 := by
  rcases set_of_fold _ _ _ e with e | ⟨n, hn, e⟩
  · exact absurd e (by decide : ¬ (0#1 = 1#1))
  · exact ⟨s.rowMajor.symm n, of_decide_eq_true (List.mem_filter.1 hn).2, e⟩

/-- The bit of a decided proposition is set exactly when it holds. -/
theorem bit_set {p : Bool} (h : BitVec.ofBool p = 1#1) : p = true := by
  cases p
  · exact absurd h (by decide)
  · rfl

/-- A word that is neither negative nor as much as 1000, both compared signed, is below 1000. -/
theorem below_of_checks (x : BitVec 32) (h : IntOp.andi (IntOp.cmpi .sge x 0#32) (IntOp.cmpi .slt x 1000#32) = 1#1) :
    x.toNat < 1000 := by
  obtain ⟨h₀, h₁⟩ := both_of_and h
  have a := bit_set h₀
  have b := bit_set h₁
  simp only [BitVec.sle_eq_decide, BitVec.slt_eq_decide, decide_eq_true_eq, BitVec.toInt_eq_toNat_cond, BitVec.toNat_ofNat,
    Nat.reducePow, Nat.reduceMod] at a b
  omega

/-- Two words whose comparison for equality gives a set bit are equal. -/
theorem eq_of_check {x y : BitVec 32} (h : IntOp.cmpi .eq x y = 1#1) : x = y := by
  have a := bit_set h
  exact eq_of_beq a

/-! ## The preconditions -/

variable {F : FTy → Type} [FloatOps F]

/-- Under `labels_in_range` every label is below 1000. -/
theorem labels_below [Cert.Pre_labels_in_range.Facts] (probs : FVec F Cert.Pre_labels_in_range.S16384x1000 .f32)
    (labs lower upper : IVec Cert.Pre_labels_in_range.S8192 32)
    (h : Cert.Pre_labels_in_range.fn probs labs lower upper = fun _ => 1#1) (i : Cert.Pre_labels_in_range.S8192.Idx) :
    (labs i).toNat < 1000 :=
  below_of_checks (labs i) (congrFun h i)

section
variable [Cert.Pre_rows_as_given.Facts] (probs : FVec F Cert.Pre_rows_as_given.S16384x1000 .f32)
  (labs lower upper : IVec Cert.Pre_rows_as_given.S8192 32)

/-- Under `rows_as_given` every label is below 1000. -/
theorem rows_labels_below (h : (Cert.Pre_rows_as_given.fn probs labs lower upper).1 = fun _ => 1#1)
    (i : Cert.Pre_rows_as_given.S8192.Idx) : (labs i).toNat < 1000 :=
  below_of_checks (labs i) (congrFun h i)

/-- Under `rows_as_given` word `i` of the lower rows is `i`. -/
theorem lower_counts (h : (Cert.Pre_rows_as_given.fn probs labs lower upper).2.1 = fun _ => 1#1)
    (i : Cert.Pre_rows_as_given.S8192.Idx) : lower i = BitVec.ofNat 32 (i 0).val :=
  eq_of_check (congrFun h i)

/-- Under `rows_as_given` every upper row `8192 + k` is some word of the last argument. -/
theorem upper_lists (h : (Cert.Pre_rows_as_given.fn probs labs lower upper).2.2 = fun _ => 1#1)
    (k : Cert.Pre_rows_as_given.S8192.Idx) : ∃ j : Cert.Pre_rows_as_given.S8192.Idx, upper j = BitVec.ofNat 32 (8192 + (k 0).val) := by
  have e := congrFun h k
  unfold Cert.Pre_rows_as_given.fn at e
  dsimp only at e
  obtain ⟨i, hd, he⟩ := some_set _ _ _ _ e
  refine ⟨fun | ⟨0, _⟩ => i 0, ?_⟩
  have hk : (i 1).val = (k 0).val := by
    rw [← hd]
    exact (Shape.ReducesTo.drop_apply_val_of_eq _ i 0 1).symm
  have hw := eq_of_check he
  rw [← hk, BitVec.ofNat_add]
  refine Eq.trans (congrArg upper (funext fun a => ?_)) hw
  obtain rfl : a = 0 := Subsingleton.elim (α := Fin 1) _ _
  rfl
end

end Cert.Proof

end
-- ==== Proof.Reference.lean ====
/-
  The reference's array. It writes the rows of `probs` that the last argument names into zeros, then 1.0 at the labels of
  the lower rows. With the lower rows counted in order, every upper row named and every label a column, that is `result`.
-/
module

public import proofs.«01_k».proof.Proof.Values
public import proofs.«01_k».proof.Proof.Gen.ReferenceIdeal
public import proofs.«01_k».proof.Proof.Gen.ReferenceIdeal.Run
public import Idealize.ShloMosaic.Lib.Routing.OpsSet
public import Idealize.ShloMosaic.Lib.Pipeline.Value

@[expose] public section

set_option synthInstance.maxSize 4096

noncomputable section

namespace Cert.Proof.Ref

open Cert.ReferenceIdeal Cert.ReferenceIdeal.Gen
open Idealize.ShloMosaic

variable {F : FTy → Type} [FloatOps F]

/-! ## Indices and words -/

/-- Entry `k` of a column of 8192 words. -/
abbrev colAt (k : Fin 8192) : S8192x1.Idx := fun | ⟨0, _⟩ => k | ⟨1, _⟩ => (0 : Fin 1)

/-- Entry `k` of a vector of 8192. -/
abbrev vecAt (k : Fin 8192) : S8192.Idx := fun | ⟨0, _⟩ => k

/-- Word `q` of pair `k` of an array of 8192 pairs. -/
abbrev pairAt (k : Fin 8192) (q : Fin 2) : S8192x2.Idx := fun | ⟨0, _⟩ => k | ⟨1, _⟩ => q

/-- Words counted from the end where they are negative, as a column. -/
abbrev wrapped (size : BitVec 32) (x : IVec S8192 32) : IVec S8192x1 32 :=
  broadcastInDim S8192x1 ![0] bcast_S8192_S8192x1_0
    (select (cmpi .slt x (broadcastInDim S8192 ![] bcast_S_S8192 (constantI S_ 32 0#32)))
      (addi x (broadcastInDim S8192 ![] bcast_S_S8192 (constantI S_ 32 size))) x)

/-- A word that is not negative stays as it is. -/
theorem wrapped_apply (size : BitVec 32) (x : IVec S8192 32) (k : Fin 8192) (h : (x (vecAt k)).toNat < 2 ^ 31) :
    wrapped size x (colAt k) = x (vecAt k) := by
  have hi : (fun a => if h1 : S8192.size a = 1 then ⟨0, by omega⟩ else ⟨(colAt k ((![0] : Fin 1 → Fin 2) a)).val, by
      obtain rfl : a = 0 := Subsingleton.elim (α := Fin 1) _ _
      exact k.isLt⟩ : S8192.Idx) = vecAt k := by
    funext a
    obtain rfl : a = 0 := Subsingleton.elim (α := Fin 1) _ _
    rfl
  refine Eq.trans (congrArg (select _ _ x) hi) ?_
  exact Routing.wrap_of_lt (x (vecAt k)) _ h

/-! ## Where the updates land -/

/-- Element `(k, c)` of the rows written lands at column `c` of the row that word `k` names. -/
theorem row_lands (idx : IVec S8192x1 32) (u : S8192x1000.Idx) (j : S16384x1000.Idx) :
    scatter_S16384x1000_S8192x1_S8192x1000_1_0_0_1.resultIdx? u idx = some j
      ↔ (idx (colAt (u 0))).toInt = (j 0).val ∧ (u 1).val = (j 1).val := by
  rw [Routing.resultIdx?_eq_some]
  have h0 : scatter_S16384x1000_S8192x1_S8192x1000_1_0_0_1.start u idx 0 = (idx (colAt (u 0))).toInt := by
    refine congrArg (fun i => (idx i).toInt) (funext fun a => ?_)
    match a with
    | ⟨0, _⟩ => rfl
    | ⟨1, _⟩ => rfl
  have h1 : scatter_S16384x1000_S8192x1_S8192x1000_1_0_0_1.start u idx 1 = 0 := rfl
  have w0 : scatter_S16384x1000_S8192x1_S8192x1000_1_0_0_1.window u 0 = 0 := rfl
  have w1 : scatter_S16384x1000_S8192x1_S8192x1000_1_0_0_1.window u 1 = (u 1).val := rfl
  constructor
  · intro h
    have a := h 0
    have b := h 1
    rw [h0, w0] at a
    rw [h1, w1] at b
    omega
  · rintro ⟨a, b⟩ q
    match q with
    | ⟨0, _⟩ => show _ = ((j 0).val : Int); rw [← a, ← h0]; exact (congrArg (_ + ·) (congrArg Int.ofNat w0)).trans (Int.add_zero _)
    | ⟨1, _⟩ => show _ = ((j 1).val : Int); rw [← b, ← w1]; exact (congrArg (· + _) h1).trans (Int.zero_add _)

/-- Entry `k` of the single words written lands at the row and the column that pair `k` names. -/
theorem pair_lands (idx : IVec S8192x2 32) (u : S8192.Idx) (j : S16384x1000.Idx) :
    scatter_S16384x1000_S8192x2_S8192_n_01_01_1.resultIdx? u idx = some j
      ↔ (idx (pairAt (u 0) 0)).toInt = (j 0).val ∧ (idx (pairAt (u 0) 1)).toInt = (j 1).val := by
  rw [Routing.resultIdx?_eq_some]
  have hs : ∀ q : Fin 2, scatter_S16384x1000_S8192x2_S8192_n_01_01_1.start u idx q = (idx (pairAt (u 0) q)).toInt := fun q => by
    match q with
    | 0 =>
      refine congrArg (fun i => (idx i).toInt) (funext fun a => ?_)
      match a with
      | ⟨0, _⟩ => rfl
      | ⟨1, _⟩ => rfl
    | 1 =>
      refine congrArg (fun i => (idx i).toInt) (funext fun a => ?_)
      match a with
      | ⟨0, _⟩ => rfl
      | ⟨1, _⟩ => rfl
  have hw : ∀ q : Fin 2, scatter_S16384x1000_S8192x2_S8192_n_01_01_1.window u q = 0 := fun q => by
    match q with
    | 0 => rfl
    | 1 => rfl
  have ht : ∀ q : Fin 2, scatter_S16384x1000_S8192x2_S8192_n_01_01_1.start u idx q
      + (scatter_S16384x1000_S8192x2_S8192_n_01_01_1.window u q : Int) = (idx (pairAt (u 0) q)).toInt := fun q => by
    rw [hs, hw]; exact Int.add_zero _
  constructor
  · intro h
    exact ⟨(ht 0).symm.trans (h 0), (ht 1).symm.trans (h 1)⟩
  · rintro ⟨a, b⟩ q
    match q with
    | ⟨0, _⟩ => exact (ht 0).trans a
    | ⟨1, _⟩ => exact (ht 1).trans b

/-- Element `(k, c)` of the rows read is column `c` of the row that word `k` names. -/
theorem row_read {α : Type} (x : S16384x1000.Idx → α) (idx : IVec S8192x1 32) (u : S8192x1000.Idx) (j : S16384x1000.Idx)
    (hr : (idx (colAt (u 0))).toInt = (j 0).val) (hc : (u 1).val = (j 1).val) :
    Host.gather gather_S16384x1000_S8192x1_S8192x1000_1_0_n_n_0_1_11000 x idx u = x j := by
  refine congrArg x (funext fun a => Fin.ext ?_)
  have hj : (j 0).val < 16384 := (j 0).isLt
  have h0 : gather_S16384x1000_S8192x1_S8192x1000_1_0_n_n_0_1_11000.start u idx 0 = min (idx (colAt (u 0))).toInt.toNat (16384 - 1) := by
    refine congrArg (fun i => min (idx i).toInt.toNat (16384 - 1)) (funext fun a => ?_)
    match a with
    | ⟨0, _⟩ => rfl
    | ⟨1, _⟩ => rfl
  match a with
  | ⟨0, _⟩ =>
    show gather_S16384x1000_S8192x1_S8192x1000_1_0_n_n_0_1_11000.start u idx 0 + 0 + 0 = (j 0).val
    rw [h0, hr]; omega
  | ⟨1, _⟩ =>
    show 0 + 0 + (u 1).val = (j 1).val
    omega

/-! ## The two writes -/

/-- The pairs the second write goes by: word `k` of the rows, word `k` of the columns. -/
abbrev pairs (rows cols : IVec S8192x1 32) : IVec S8192x2 32 :=
  concatenate S8192x2 1 [⟨S8192x1, rows⟩, ⟨S8192x1, cols⟩] concatenates_S8192x1_S8192x1_S8192x2_d1

/-- The first word of pair `k` is the row's. -/
theorem pairs_row (rows cols : IVec S8192x1 32) (k : Fin 8192) : pairs rows cols (pairAt k 0) = rows (colAt k) :=
  concatenate_pair_apply_left (t := S8192x2) (s₁ := S8192x1) (s₂ := S8192x1) 1 rows cols _ (pairAt k 0) rfl (colAt k) fun b => by
    match b with
    | ⟨0, _⟩ => rfl
    | ⟨1, _⟩ => rfl

/-- The second word of pair `k` is the column's. -/
theorem pairs_col (rows cols : IVec S8192x1 32) (k : Fin 8192) : pairs rows cols (pairAt k 1) = cols (colAt k) :=
  concatenate_pair_apply_right (t := S8192x2) (s₁ := S8192x1) (s₂ := S8192x1) 1 rows cols _ (pairAt k 1) rfl rfl (colAt k)
    (fun b hb => by
      match b with
      | ⟨0, _⟩ => rfl
      | ⟨1, _⟩ => exact absurd rfl hb) rfl

/-- A word below 2³¹ read signed is the word. -/
theorem toInt_small (x : BitVec 32) (n : ℕ) (h : x.toNat = n) (hn : n < 2 ^ 31) : x.toInt = (n : Int) := by
  rw [BitVec.toInt_eq_toNat_cond, if_pos (by omega), h]

/-- The number of the word that counts row `n`. -/
theorem toNat_row (n : ℕ) (h : n < 16384) : (BitVec.ofNat 32 n).toNat = n := by
  rw [BitVec.toNat_ofNat]; omega

/-- A list of 8192 words that names every upper row names no other: each of its words is an upper row. -/
theorem names_upper (upper : IVec S8192 32) (h : ∀ k : S8192.Idx, ∃ j : S8192.Idx, upper j = BitVec.ofNat 32 (8192 + (k 0).val))
    (j : S8192.Idx) : ∃ k : S8192.Idx, upper j = BitVec.ofNat 32 (8192 + (k 0).val) := by
  choose f hf using h
  have inj : Function.Injective f := fun a b e => by
    have ha : (a 0).val < 8192 := (a 0).isLt
    have hb : (b 0).val < 8192 := (b 0).isLt
    have hw := congrArg BitVec.toNat ((hf a).symm.trans ((congrArg upper e).trans (hf b)))
    rw [toNat_row _ (by omega), toNat_row _ (by omega)] at hw
    funext q
    obtain rfl : q = 0 := Subsingleton.elim (α := Fin 1) _ _
    exact Fin.ext (by omega)
  obtain ⟨k, rfl⟩ := Finite.injective_iff_surjective.1 inj j
  exact ⟨k, hf k⟩

/-- An entry of a vector of 8192, by its number. -/
theorem vecAt_self (k : S8192.Idx) : vecAt (k 0) = k := by
  funext a
  obtain rfl : a = 0 := Subsingleton.elim (α := Fin 1) _ _
  rfl

/-- Zeros, with the rows of `probs` that the last argument names written over them. -/
abbrev rowsWritten (probs : FVec F S16384x1000 .f32) (upper : IVec S8192 32) : FVec F S16384x1000 .f32 :=
  Host.scatter scatter_S16384x1000_S8192x1_S8192x1000_1_0_0_1 (fun _ b => b)
    (broadcastInDim S16384x1000 ![] bcast_S_S16384x1000 (constant S_ .f32 0x00000000#32)) (wrapped 16384#32 upper)
    (Host.gather gather_S16384x1000_S8192x1_S8192x1000_1_0_n_n_0_1_11000 probs (wrapped 16384#32 upper))

/-- When the last argument names every upper row: the upper rows of `probs`, zero in the lower rows. -/
theorem rowsWritten_eq (probs : FVec F S16384x1000 .f32) (upper : IVec S8192 32)
    (hu : ∀ k : S8192.Idx, ∃ j : S8192.Idx, upper j = BitVec.ofNat 32 (8192 + (k 0).val)) (j : S16384x1000.Idx) :
    rowsWritten probs upper j = if (j 0).val < 8192 then zeroW else probs j := by
  have hj : (j 0).val < 16384 := (j 0).isLt
  -- each word, read signed, is an upper row
  have word : ∀ (i : Fin 8192) (n : ℕ), n < 8192 → upper (vecAt i) = BitVec.ofNat 32 (8192 + n) →
      (wrapped 16384#32 upper (colAt i)).toInt = ((8192 + n : ℕ) : Int) := fun i n h e => by
    have hn : (upper (vecAt i)).toNat = 8192 + n := (congrArg BitVec.toNat e).trans (toNat_row _ (by omega))
    rw [wrapped_apply _ _ _ (by omega)]
    exact toInt_small _ _ hn (by omega)
  by_cases h : (j 0).val < 8192
  · rw [if_pos h]
    refine Routing.scatter_set_miss _ _ _ _ _ fun u e => ?_
    obtain ⟨k, hk⟩ := names_upper upper hu (vecAt (u 0))
    have hw := (word (u 0) (k 0).val (k 0).isLt hk).symm.trans ((row_lands _ _ _).1 e).1
    omega
  · rw [if_neg h]
    obtain ⟨i, hi⟩ := hu (vecAt ⟨(j 0).val - 8192, by omega⟩)
    refine Routing.scatter_set_hit _ _ _ _ _ _ (fun u e => ?_) (fun | ⟨0, _⟩ => i 0 | ⟨1, _⟩ => j 1) ((row_lands _ _ _).2 ⟨?_, rfl⟩)
    · obtain ⟨hr, hc⟩ := (row_lands _ _ _).1 e
      exact row_read probs _ u j hr hc
    · refine (word (i 0) ((j 0).val - 8192) (by omega) ((congrArg upper (vecAt_self i)).trans hi)).trans ?_
      omega

/-- The reference's array, when the lower rows are counted in order, every upper row is named and every label is a column:
    1.0 at the labels and 0.0 elsewhere in the lower rows, `probs` in the upper ones. -/
theorem value (probs : FVec F S16384x1000 .f32) (labs lower upper : IVec S8192 32) (hl : ∀ i, (labs i).toNat < 1000)
    (hL : ∀ i : S8192.Idx, lower i = BitVec.ofNat 32 (i 0).val)
    (hu : ∀ k : S8192.Idx, ∃ j : S8192.Idx, upper j = BitVec.ofNat 32 (8192 + (k 0).val)) :
    Host.scatter scatter_S16384x1000_S8192x2_S8192_n_01_01_1 (fun _ b => b) (rowsWritten probs upper)
      (pairs (wrapped 16384#32 lower) (wrapped 1000#32 labs)) (broadcastInDim S8192 ![] bcast_S_S8192 (constant S_ .f32 0x3F800000#32))
    = result probs labs := by
  funext j
  have hr : ∀ k : Fin 8192, (pairs (wrapped 16384#32 lower) (wrapped 1000#32 labs) (pairAt k 0)).toInt = (k.val : Int) := fun k => by
    have hk := k.isLt
    have hn : (lower (vecAt k)).toNat = k.val :=
      (congrArg BitVec.toNat (hL (vecAt k))).trans (toNat_row k.val (by omega))
    rw [pairs_row, wrapped_apply _ _ _ (by omega)]
    exact toInt_small _ _ hn (by omega)
  have hc : ∀ k : Fin 8192, (pairs (wrapped 16384#32 lower) (wrapped 1000#32 labs) (pairAt k 1)).toInt = ((labs (vecAt k)).toNat : Int) := fun k => by
    have hk := hl (vecAt k)
    rw [pairs_col, wrapped_apply _ _ _ (by omega)]
    exact toInt_small _ _ rfl (by omega)
  unfold result
  by_cases h : (j 0).val < 8192
  · rw [if_pos h]
    have ha : labelAt labs (j 0).val = (labs (vecAt ⟨(j 0).val, h⟩)).toNat := by
      refine (dif_pos h).trans (congrArg (fun i => (labs i).toNat) (funext fun a => ?_))
      obtain rfl : a = 0 := Subsingleton.elim (α := Fin 1) _ _
      rfl
    by_cases e : (j 1).val = labelAt labs (j 0).val
    · rw [if_pos e]
      refine Routing.scatter_set_hit _ _ _ _ _ _ (fun _ _ => rfl) (vecAt ⟨(j 0).val, h⟩) ((pair_lands _ _ _).2 ⟨?_, ?_⟩)
      · exact hr _
      · refine (hc _).trans ?_
        rw [e, ha]
    · rw [if_neg e]
      refine (Routing.scatter_set_miss _ _ _ _ _ fun u q => ?_).trans ((rowsWritten_eq probs upper hu j).trans (if_pos h))
      obtain ⟨q₀, q₁⟩ := (pair_lands _ _ _).1 q
      have a := (hr (u 0)).symm.trans q₀
      have b := (hc (u 0)).symm.trans q₁
      have hk : (u 0 : Fin 8192) = ⟨(j 0).val, h⟩ := Fin.ext (Int.ofNat.inj a)
      have b' := (congrArg (fun k => ((labs (vecAt k)).toNat : Int)) hk).symm.trans b
      exact e ((Int.ofNat.inj b').symm.trans ha.symm)
  · rw [if_neg h]
    refine (Routing.scatter_set_miss _ _ _ _ _ fun u q => ?_).trans ((rowsWritten_eq probs upper hu j).trans (if_neg h))
    have a := (hr (u 0)).symm.trans ((pair_lands _ _ _).1 q).1
    have hk : (u 0).val < 8192 := (u 0).isLt
    omega

end Cert.Proof.Ref

end
-- ==== Proof.lean ====
/-
  The claims. Every frame of the kernel is `run_main` at one kind of floats; the reference's is its run read at its arguments;
  the values agree because both sides end at `result`.
-/
module

public import proofs.«01_k».proof.Defs
public import proofs.«01_k».proof.Proof.Gen.Kernel
public import proofs.«01_k».proof.Proof.Gen.Kernel.Skeleton
public import proofs.«01_k».proof.Proof.Launch
public import proofs.«01_k».proof.Proof.Pre
public import proofs.«01_k».proof.Proof.Reference

@[expose] public section

noncomputable section

namespace Cert.Proof

open Idealize.ShloMosaic Idealize.SL.Sem

/-- The shape relations of the two preconditions. -/
instance : Cert.Pre_labels_in_range.Facts := labelsFacts
instance : Cert.Pre_rows_as_given.Facts := rowsFacts

/-- What a frame asks of the kernel, over any floats: its arguments end as they were, every semaphore at zero. -/
theorem run_frame {F : FTy → Type} [FloatOps F] [∀ e, Nonempty (Elt F e)]
    (m : (ℓ : Loc Cert.KernelIdeal.nD Cert.KernelIdeal.τ Cert.KernelIdeal.sig) → Buf (Elt F) ℓ)
    (ρ : Dev Cert.KernelIdeal.nD → PrngReg) (hl : LabelsOK m) :
    θ_run (Cert.KernelIdeal.defs (F := F)) (Cert.KernelIdeal.threads (F := F)) ⟨m, fun _ => 0, ρ⟩ fun r =>
      (∀ d, r.2.mem (probsLoc d) = m (probsLoc d) ∧ r.2.mem (labelsLoc d) = m (labelsLoc d)
        ∧ r.2.mem (lowerLoc d) = m (lowerLoc d) ∧ r.2.mem (upperLoc d) = m (upperLoc d)) ∧ r.2.sem = fun _ => 0 :=
  (θ_run Cert.KernelIdeal.defs _ _).mono
    (fun _ h => ⟨fun c => ⟨(h.1 c).1, (h.1 c).2.1, (h.1 c).2.2.1, (h.1 c).2.2.2.1⟩, h.2⟩) (run_main m ρ hl)

/-- The kernel over bit patterns: it runs, leaves its arguments as they were and every semaphore at zero. -/
theorem frame_kernel : Cert.quiescent_Kernel := fun m ρ hp =>
  run_frame m ρ fun d i => labels_below _ _ _ _ (hp d) i

/-- The same over extended reals. -/
theorem frame_kernelIdeal : Cert.quiescent_KernelIdeal := fun m ρ hp =>
  run_frame m ρ fun d i => labels_below _ _ _ _ (hp d) i

/-- The same from memories at which the value is claimed. -/
theorem frame_kernelIdeal_rows : Cert.quiescent_KernelIdeal_pre_rows_as_given := fun m ρ hp =>
  run_frame m ρ fun d i => rows_labels_below _ _ _ _ (hp d).1 i

/-- The reference runs from any memory and leaves its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array is the reference's, from labels in range, the lower rows in order and every upper row named. -/
theorem values_agree : Cert.algebraic_KernelIdeal_ReferenceIdeal_pre_rows_as_given := by
  intro m ρ m' ρ' hp hm
  refine ⟨fun c => outAt (F := Ideal) m c, ?_, ?_⟩
  · exact (θ_run Cert.KernelIdeal.defs _ _).mono
      (fun _ h c => ⟨(h.1 c).2.2.2.2, (h.1 c).1, (h.1 c).2.1, (h.1 c).2.2.1, (h.1 c).2.2.2.1⟩)
      (run_main (F := Ideal) m ρ fun d i => rows_labels_below _ _ _ _ (hp d).1 i)
  · refine (θ_run Cert.ReferenceIdeal.defs _ _).mono (fun r h c => ⟨(h c).1.trans ?_, (h c).2⟩)
      (Cert.ReferenceIdeal.Value.run (F := Ideal) m' ρ')
    rw [(hm c).1, (hm c).2.1, (hm c).2.2.1, (hm c).2.2.2]
    exact Ref.value (F := Ideal) _ _ _ _ (fun i => rows_labels_below _ _ _ _ (hp c).1 i)
      (fun i => lower_counts _ _ _ _ (hp c).2.1 i) (fun k => upper_lists _ _ _ _ (hp c).2.2 k)

/-- Everything claimed. -/
theorem claim : Cert.Claim :=
  ⟨Cert.Kernel.Gen.facts, Cert.KernelIdeal.Gen.facts, Cert.ReferenceIdeal.Gen.facts, labelsFacts, rowsFacts,
    frame_kernel, frame_kernelIdeal, frame_kernelIdeal_rows, frame_reference, fun m ρ _ => frame_reference m ρ trivial, trivial, values_agree⟩

end Cert.Proof

end
